-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_KernelIdeal (hKernelIdeal := hKernelIdeal)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal_pre_distinct (hKernelIdeal := hKernelIdeal) (hReferenceIdeal := hReferenceIdeal) (hPre_distinct := hPre_distinct)
-- ==== Pre_distinct.lean ====
abbrev S32x4096x128 : Shape := ⟨3, ![32, 4096, 128]⟩
abbrev S64x4096 : Shape := ⟨2, ![64, 4096]⟩
abbrev S64 : Shape := ⟨1, ![64]⟩
abbrev S128x4160 : Shape := ⟨2, ![128, 4160]⟩
abbrev S128 : Shape := ⟨1, ![128]⟩
abbrev S720x128 : Shape := ⟨2, ![720, 128]⟩
abbrev S720 : Shape := ⟨1, ![720]⟩
abbrev S2049x4096 : Shape := ⟨2, ![2049, 4096]⟩
abbrev S_ : Shape := ⟨0, ![]⟩
abbrev S32x128x2049 : Shape := ⟨3, ![32, 128, 2049]⟩
abbrev S32x2049x128 : Shape := ⟨3, ![32, 2049, 128]⟩
abbrev S32x128x21 : Shape := ⟨3, ![32, 128, 21]⟩
abbrev S32x128x20 : Shape := ⟨3, ![32, 128, 20]⟩

class Facts : Prop where
  bcast_S_S2049x4096 : S_.BroadcastsInDim S2049x4096 (![] : Fin 0 → Fin S2049x4096.rank)
  transposes_S32x128x2049_S32x2049x128_0_2_1 : S32x128x2049.Transposes [0, 2, 1] S32x2049x128
  transposes_S32x2049x128_S32x128x2049_0_2_1 : S32x2049x128.Transposes [0, 2, 1] S32x128x2049
  sliceFits_S32x128x2049_S32x128x21 : S32x128x2049.Slices (fun _ => 0) S32x128x21
  slices_S32x128x21_S32x128x20_0_0_0 : S32x128x21.Slices ![0, 0, 0] S32x128x20
  slices_S32x128x21_S32x128x20_0_0_1 : S32x128x21.Slices ![0, 0, 1] S32x128x20
  dot_S32x4096x128_S2049x4096_S32x128x2049_1_1_02_0_n_n_wf : DotDims.WF S32x4096x128 S2049x4096 S32x128x2049 [1] [1] [0, 2] [0] [] []

variable [Facts]

def dot_S32x4096x128_S2049x4096_S32x128x2049_1_1_02_0_n_n : DotDims S32x4096x128 S2049x4096 S32x128x2049 where
  lhsContracting := [1]
  rhsContracting := [1]
  lhsNonContracting := [0, 2]
  rhsNonContracting := [0]
  lhsBatch := []
  rhsBatch := []
  wf := dot_S32x4096x128_S2049x4096_S32x128x2049_1_1_02_0_n_n_wf
def fn_part1 {F : FTy → Type} [FloatOps F] (main_values : FVec F S32x128x21 .f32) : IVec S32x128x20 1 :=
  let main_v20 : FVec F S32x128x20 .f32 := (extractStridedSlice S32x128x20 ![0, 0, 0] · slices_S32x128x21_S32x128x20_0_0_0) main_values
  let main_v21 : FVec F S32x128x20 .f32 := (extractStridedSlice S32x128x20 ![0, 0, 1] · slices_S32x128x21_S32x128x20_0_0_1) main_values
  let main_v22 : IVec S32x128x20 1 := cmpf .ogt main_v20 main_v21
  main_v22

def fn {F : FTy → Type} [FloatOps F] (main_arg0 : FVec F S32x4096x128 .f32) (main_arg1 : FVec F S64x4096 .f32) (main_arg2 : FVec F S64 .f32) (main_arg3 : FVec F S128x4160 .f32) (main_arg4 : FVec F S128 .f32) (main_arg5 : FVec F S720x128 .f32) (main_arg6 : FVec F S720 .f32) : IVec S32x128x20 1 :=
  let main_v0 : IVec S2049x4096 32 := iotaInDim S2049x4096 32 0
  let main_v1 : IVec S2049x4096 32 := iotaInDim S2049x4096 32 1
  let main_v2 : IVec S2049x4096 32 := muli main_v0 main_v1
  let main_v3 : FVec F S2049x4096 .f32 := sitofp .f32 main_v2
  let main_cst : FVec F S_ .f32 := constant S_ .f32 0xBF800000#32
  let main_v4 : FVec F S_ .f32 := Host.acos main_cst
  let main_cst_0 : FVec F S_ .f32 := constant S_ .f32 0x3A000000#32
  let main_v5 : FVec F S_ .f32 := mulf main_v4 main_cst_0
  let main_v6 : FVec F S2049x4096 .f32 := broadcastInDim S2049x4096 ![] bcast_S_S2049x4096 main_v5
  let main_v7 : FVec F S2049x4096 .f32 := mulf main_v3 main_v6
  let main_v8 : FVec F S2049x4096 .f32 := Host.cos main_v7
  let main_v9 : FVec F S32x128x2049 .f32 := (fun l r => Host.dotGeneral dot_S32x4096x128_S2049x4096_S32x128x2049_1_1_02_0_n_n none l r) main_arg0 main_v8
  let main_v10 : FVec F S32x2049x128 .f32 := (transpose S32x2049x128 [0, 2, 1] · transposes_S32x128x2049_S32x2049x128_0_2_1) main_v9
  let main_v11 : FVec F S2049x4096 .f32 := Host.sin main_v7
  let main_v12 : FVec F S32x128x2049 .f32 := (fun l r => Host.dotGeneral dot_S32x4096x128_S2049x4096_S32x128x2049_1_1_02_0_n_n none l r) main_arg0 main_v11
  let main_v13 : FVec F S32x2049x128 .f32 := (transpose S32x2049x128 [0, 2, 1] · transposes_S32x128x2049_S32x2049x128_0_2_1) main_v12
  let main_v14 : FVec F S32x2049x128 .f32 := Host.negf main_v13
  let main_v15 : FVec F S32x2049x128 .f32 := mulf main_v10 main_v10
  let main_v16 : FVec F S32x2049x128 .f32 := mulf main_v14 main_v14
  let main_v17 : FVec F S32x2049x128 .f32 := addf main_v15 main_v16
  let main_v18 : FVec F S32x2049x128 .f32 := Host.sqrt main_v17
  let main_v19 : FVec F S32x128x2049 .f32 := (transpose S32x128x2049 [0, 2, 1] · transposes_S32x2049x128_S32x128x2049_0_2_1) main_v18
  let main_values : FVec F S32x128x21 .f32 := (fun x => (Host.topK S32x128x21 2 (FloatOps.cmpfTotal .gt) x sliceFits_S32x128x2049_S32x128x21).1) main_v19
  let main_indices : IVec S32x128x21 32 := (fun x => (Host.topK S32x128x21 2 (FloatOps.cmpfTotal .gt) x sliceFits_S32x128x2049_S32x128x21).2) main_v19
  fn_part1 (F := F) main_values
-- ==== Kernel.lean ====
abbrev S32x4096x128 : Shape := ⟨3, ![32, 4096, 128]⟩
abbrev S64x4096 : Shape := ⟨2, ![64, 4096]⟩
abbrev S64 : Shape := ⟨1, ![64]⟩
abbrev S128x4160 : Shape := ⟨2, ![128, 4160]⟩
abbrev S128 : Shape := ⟨1, ![128]⟩
abbrev S720x128 : Shape := ⟨2, ![720, 128]⟩
abbrev S720 : Shape := ⟨1, ![720]⟩
abbrev S40 : Shape := ⟨1, ![40]⟩
abbrev S_ : Shape := ⟨0, ![]⟩
abbrev S40x1 : Shape := ⟨2, ![40, 1]⟩
abbrev S1x64 : Shape := ⟨2, ![1, 64]⟩
abbrev S40x64 : Shape := ⟨2, ![40, 64]⟩
abbrev S80x64 : Shape := ⟨2, ![80, 64]⟩
abbrev S40x64x128 : Shape := ⟨3, ![40, 64, 128]⟩
abbrev S40x8192 : Shape := ⟨2, ![40, 8192]⟩
abbrev S32 : Shape := ⟨1, ![32]⟩
abbrev S32x1 : Shape := ⟨2, ![32, 1]⟩
abbrev S32x64 : Shape := ⟨2, ![32, 64]⟩
abbrev S128x64 : Shape := ⟨2, ![128, 64]⟩
abbrev S32x64x128 : Shape := ⟨3, ![32, 64, 128]⟩
abbrev S32x8192 : Shape := ⟨2, ![32, 8192]⟩
abbrev S1x64x128 : Shape := ⟨3, ![1, 64, 128]⟩
abbrev S1x8192 : Shape := ⟨2, ![1, 8192]⟩
abbrev S64x32 : Shape := ⟨2, ![64, 32]⟩
abbrev S128x32 : Shape := ⟨2, ![128, 32]⟩
abbrev S64x1 : Shape := ⟨2, ![64, 1]⟩
abbrev S64x64 : Shape := ⟨2, ![64, 64]⟩
abbrev S64x64x128 : Shape := ⟨3, ![64, 64, 128]⟩
abbrev S64x8192 : Shape := ⟨2, ![64, 8192]⟩
abbrev S32x64x8192 : Shape := ⟨3, ![32, 64, 8192]⟩
abbrev S1x64x8192 : Shape := ⟨3, ![1, 64, 8192]⟩
abbrev S80x8192 : Shape := ⟨2, ![80, 8192]⟩
abbrev S64x128 : Shape := ⟨2, ![64, 128]⟩
abbrev S1x128 : Shape := ⟨2, ![1, 128]⟩
abbrev S64x40x128 : Shape := ⟨3, ![64, 40, 128]⟩
abbrev S64x5120 : Shape := ⟨2, ![64, 5120]⟩
abbrev S128x5120 : Shape := ⟨2, ![128, 5120]⟩
abbrev S32x5120 : Shape := ⟨2, ![32, 5120]⟩
abbrev S32x4224 : Shape := ⟨2, ![32, 4224]⟩
abbrev S32x3968 : Shape := ⟨2, ![32, 3968]⟩
abbrev S16x8192 : Shape := ⟨2, ![16, 8192]⟩
abbrev S8192 : Shape := ⟨1, ![8192]⟩
abbrev S128x8192 : Shape := ⟨2, ![128, 8192]⟩

abbrev nBuf : Space → Nat
  | .hbm => 212
  | .vmem => 17
  | .smem => 0
  | _ => 0

abbrev hbmTy0_0 (i : Nat) : BufTy := match i % 128 with
  | 0 => ⟨S32x4096x128, .f32⟩
  | 1 => ⟨S64x4096, .f32⟩
  | 2 => ⟨S64, .f32⟩
  | 3 => ⟨S128x4160, .f32⟩
  | 4 => ⟨S128, .f32⟩
  | 5 => ⟨S720x128, .f32⟩
  | 6 => ⟨S720, .f32⟩
  | 7 => ⟨S64, .i32⟩
  | 8 => ⟨S40, .i32⟩
  | 9 => ⟨S_, .i32⟩
  | 10 => ⟨S40, .i32⟩
  | 11 => ⟨S40, .i1⟩
  | 12 => ⟨S40x1, .i1⟩
  | 13 => ⟨S40x1, .i32⟩
  | 14 => ⟨S1x64, .i32⟩
  | 15 => ⟨S40x64, .i32⟩
  | 16 => ⟨S40x64, .i32⟩
  | 17 => ⟨S40x64, .i32⟩
  | 18 => ⟨S40x64, .f32⟩
  | 19 => ⟨S_, .f32⟩
  | 20 => ⟨S_, .f32⟩
  | 21 => ⟨S_, .f32⟩
  | 22 => ⟨S_, .f32⟩
  | 23 => ⟨S40x64, .f32⟩
  | 24 => ⟨S40x64, .f32⟩
  | 25 => ⟨S40x64, .f32⟩
  | 26 => ⟨S40x64, .f32⟩
  | 27 => ⟨S40x64, .f32⟩
  | 28 => ⟨S_, .f32⟩
  | 29 => ⟨S_, .f32⟩
  | 30 => ⟨S40x64, .i1⟩
  | 31 => ⟨S40x64, .f32⟩
  | 32 => ⟨S40x64, .f32⟩
  | 33 => ⟨S_, .f32⟩
  | 34 => ⟨S_, .f32⟩
  | 35 => ⟨S40x64, .i1⟩
  | 36 => ⟨S40x64, .f32⟩
  | 37 => ⟨S40x64, .f32⟩
  | 38 => ⟨S80x64, .f32⟩
  | 39 => ⟨S80x64, .bf16⟩
  | 40 => ⟨S80x64, .f32⟩
  | 41 => ⟨S80x64, .f32⟩
  | 42 => ⟨S80x64, .bf16⟩
  | 43 => ⟨S40x1, .i32⟩
  | 44 => ⟨S1x64, .i32⟩
  | 45 => ⟨S40x64, .i32⟩
  | 46 => ⟨S40x64, .i32⟩
  | 47 => ⟨S40x64, .i32⟩
  | 48 => ⟨S40x64, .f32⟩
  | 49 => ⟨S_, .f32⟩
  | 50 => ⟨S_, .f32⟩
  | 51 => ⟨S_, .f32⟩
  | 52 => ⟨S_, .f32⟩
  | 53 => ⟨S40x64, .f32⟩
  | 54 => ⟨S40x64, .f32⟩
  | 55 => ⟨S40x64, .f32⟩
  | 56 => ⟨S40x64, .f32⟩
  | 57 => ⟨S40x64, .f32⟩
  | 58 => ⟨S_, .f32⟩
  | 59 => ⟨S_, .f32⟩
  | 60 => ⟨S40x64, .i1⟩
  | 61 => ⟨S40x64, .f32⟩
  | 62 => ⟨S40x64, .f32⟩
  | 63 => ⟨S_, .f32⟩
  | 64 => ⟨S_, .f32⟩
  | 65 => ⟨S40x64, .i1⟩
  | 66 => ⟨S40x64, .f32⟩
  | 67 => ⟨S40x64, .f32⟩
  | 68 => ⟨S40x64x128, .f32⟩
  | 69 => ⟨S40x8192, .f32⟩
  | 70 => ⟨S40x64x128, .f32⟩
  | 71 => ⟨S40x8192, .f32⟩
  | 72 => ⟨S32, .i32⟩
  | 73 => ⟨S32x1, .i32⟩
  | 74 => ⟨S1x64, .i32⟩
  | 75 => ⟨S32x64, .i32⟩
  | 76 => ⟨S32x64, .i32⟩
  | 77 => ⟨S32x64, .i32⟩
  | 78 => ⟨S32x64, .f32⟩
  | 79 => ⟨S_, .f32⟩
  | 80 => ⟨S_, .f32⟩
  | 81 => ⟨S_, .f32⟩
  | 82 => ⟨S_, .f32⟩
  | 83 => ⟨S32x64, .f32⟩
  | 84 => ⟨S32x64, .f32⟩
  | 85 => ⟨S_, .i32⟩
  | 86 => ⟨S32, .i32⟩
  | 87 => ⟨S32, .i32⟩
  | 88 => ⟨S32x1, .i32⟩
  | 89 => ⟨S1x64, .i32⟩
  | 90 => ⟨S32x64, .i32⟩
  | 91 => ⟨S32x64, .i32⟩
  | 92 => ⟨S32x64, .i32⟩
  | 93 => ⟨S32x64, .f32⟩
  | 94 => ⟨S_, .f32⟩
  | 95 => ⟨S_, .f32⟩
  | 96 => ⟨S_, .f32⟩
  | 97 => ⟨S_, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S128x64, .f32⟩
  | 107 => ⟨S128x64, .bf16⟩
  | 108 => ⟨S128x64, .f32⟩
  | 109 => ⟨S128x64, .f32⟩
  | 110 => ⟨S128x64, .bf16⟩
  | 111 => ⟨S_, .i32⟩
  | 112 => ⟨S64, .i32⟩
  | 113 => ⟨S64, .i1⟩
  | 114 => ⟨S_, .i32⟩
  | 115 => ⟨S64, .i32⟩
  | 116 => ⟨S64, .i32⟩
  | 117 => ⟨S64, .i32⟩
  | 118 => ⟨S32x1, .i32⟩
  | 119 => ⟨S_, .i32⟩
  | 120 => ⟨S32x1, .i32⟩
  | 121 => ⟨S32x1, .i32⟩
  | 122 => ⟨S1x64, .i32⟩
  | 123 => ⟨S32x64, .i32⟩
  | 124 => ⟨S32x64, .i32⟩
  | 125 => ⟨S32x64, .i32⟩
  | 126 => ⟨S_, .i32⟩
  | 127 => ⟨S32x64, .i32⟩
  | _ => ⟨S32x4096x128, .f32⟩

abbrev hbmTy0_1 (i : Nat) : BufTy := match i % 128 with
  | 0 => ⟨S32x64, .i1⟩
  | 1 => ⟨S_, .f32⟩
  | 2 => ⟨S_, .f32⟩
  | 3 => ⟨S32x64, .f32⟩
  | 4 => ⟨S32x64, .f32⟩
  | 5 => ⟨S32x64, .f32⟩
  | 6 => ⟨S_, .f32⟩
  | 7 => ⟨S32x64, .f32⟩
  | 8 => ⟨S32x64, .f32⟩
  | 9 => ⟨S32x64x128, .f32⟩
  | 10 => ⟨S32x8192, .f32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i1⟩
  | 22 => ⟨S_, .i32⟩
  | 23 => ⟨S64, .i32⟩
  | 24 => ⟨S64, .i1⟩
  | 25 => ⟨S_, .i32⟩
  | 26 => ⟨S_, .i1⟩
  | 27 => ⟨S64, .i1⟩
  | 28 => ⟨S64, .i1⟩
  | 29 => ⟨S64, .i1⟩
  | 30 => ⟨S64, .i32⟩
  | 31 => ⟨S64, .i32⟩
  | 32 => ⟨S64, .i32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S1x64, .f32⟩
  | 41 => ⟨S1x64x128, .f32⟩
  | 42 => ⟨S1x8192, .f32⟩
  | 43 => ⟨S32x64, .f32⟩
  | 44 => ⟨S64x32, .f32⟩
  | 45 => ⟨S32x64, .f32⟩
  | 46 => ⟨S64x32, .f32⟩
  | 47 => ⟨S128x32, .f32⟩
  | 48 => ⟨S64x1, .i32⟩
  | 49 => ⟨S1x64, .i32⟩
  | 50 => ⟨S64x64, .i32⟩
  | 51 => ⟨S64x64, .i32⟩
  | 52 => ⟨S64x64, .i32⟩
  | 53 => ⟨S64x64, .f32⟩
  | 54 => ⟨S_, .f32⟩
  | 55 => ⟨S_, .f32⟩
  | 56 => ⟨S_, .f32⟩
  | 57 => ⟨S_, .f32⟩
  | 58 => ⟨S64x64, .f32⟩
  | 59 => ⟨S64x64, .f32⟩
  | 60 => ⟨S64x64, .f32⟩
  | 61 => ⟨S64x64x128, .f32⟩
  | 62 => ⟨S64x8192, .f32⟩
  | 63 => ⟨S64x64, .f32⟩
  | 64 => ⟨S64x64x128, .f32⟩
  | 65 => ⟨S64x8192, .f32⟩
  | 66 => ⟨S64x1, .i32⟩
  | 67 => ⟨S1x64, .i32⟩
  | 68 => ⟨S64x64, .i32⟩
  | 69 => ⟨S64x64, .i32⟩
  | 70 => ⟨S64x64, .i32⟩
  | 71 => ⟨S64x64, .f32⟩
  | 72 => ⟨S_, .f32⟩
  | 73 => ⟨S_, .f32⟩
  | 74 => ⟨S_, .f32⟩
  | 75 => ⟨S_, .f32⟩
  | 76 => ⟨S64x64, .f32⟩
  | 77 => ⟨S64x64, .f32⟩
  | 78 => ⟨S64x64, .f32⟩
  | 79 => ⟨S64x64, .bf16⟩
  | 80 => ⟨S64x64, .f32⟩
  | 81 => ⟨S64x64, .bf16⟩
  | 82 => ⟨S32x64x8192, .f32⟩
  | 83 => ⟨S32x64x8192, .f32⟩
  | _ => ⟨S32x4096x128, .f32⟩

abbrev hbmTy (i : Nat) : BufTy := match i / 128 with
  | 0 => hbmTy0_0 i
  | 1 => hbmTy0_1 i
  | _ => ⟨S32x4096x128, .f32⟩

abbrev bufTy : (tb : Table) → Fin (tcTables nBuf tb) → BufTy
  | .hbm, ⟨i, _⟩ => hbmTy i
  | .local _ .vmem, ⟨0, _⟩ => ⟨S1x64x8192, .f32⟩
  | .local _ .vmem, ⟨1, _⟩ => ⟨S1x64x8192, .f32⟩
  | .local _ .vmem, ⟨2, _⟩ => ⟨S80x64, .bf16⟩
  | .local _ .vmem, ⟨3, _⟩ => ⟨S80x64, .bf16⟩
  | .local _ .vmem, ⟨4, _⟩ => ⟨S40x8192, .f32⟩
  | .local _ .vmem, ⟨5, _⟩ => ⟨S40x8192, .f32⟩
  | .local _ .vmem, ⟨6, _⟩ => ⟨S128x64, .bf16⟩
  | .local _ .vmem, ⟨7, _⟩ => ⟨S128x64, .bf16⟩
  | .local _ .vmem, ⟨8, _⟩ => ⟨S32x8192, .f32⟩
  | .local _ .vmem, ⟨9, _⟩ => ⟨S1x8192, .f32⟩
  | .local _ .vmem, ⟨10, _⟩ => ⟨S128x32, .f32⟩
  | .local _ .vmem, ⟨11, _⟩ => ⟨S64x8192, .f32⟩
  | .local _ .vmem, ⟨12, _⟩ => ⟨S64x8192, .f32⟩
  | .local _ .vmem, ⟨13, _⟩ => ⟨S64x64, .bf16⟩
  | .local _ .vmem, ⟨14, _⟩ => ⟨S64x64, .bf16⟩
  | .local _ .vmem, ⟨15, _⟩ => ⟨S1x64x8192, .f32⟩
  | .local _ .vmem, ⟨16, _⟩ => ⟨S1x64x8192, .f32⟩
  | _, _ => ⟨S32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst : Ref sig .tc := ⟨.hbm, 19, rfl⟩
abbrev main_call0_v11 : Ref sig .tc := ⟨.hbm, 20, rfl⟩
abbrev main_call0_cst_0 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_cst_1 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_v18 : Ref sig .tc := ⟨.hbm, 32, rfl⟩
abbrev main_call0_cst_2 : Ref sig .tc := ⟨.hbm, 33, rfl⟩
abbrev main_call0_call1_v0 : Ref sig .tc := ⟨.hbm, 34, rfl⟩
abbrev main_call0_call1_v1 : Ref sig .tc := ⟨.hbm, 35, rfl⟩
abbrev main_call0_call1_v2 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_cst_3 : Ref sig .tc := ⟨.hbm, 49, rfl⟩
abbrev main_call0_v31 : Ref sig .tc := ⟨.hbm, 50, rfl⟩
abbrev main_call0_cst_4 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_cst_5 : Ref sig .tc := ⟨.hbm, 58, rfl⟩
abbrev main_call0_call2_v0 : Ref sig .tc := ⟨.hbm, 59, rfl⟩
abbrev main_call0_call2_v1 : Ref sig .tc := ⟨.hbm, 60, rfl⟩
abbrev main_call0_call2_v2 : Ref sig .tc := ⟨.hbm, 61, rfl⟩
abbrev main_call0_v38 : Ref sig .tc := ⟨.hbm, 62, rfl⟩
abbrev main_call0_cst_6 : Ref sig .tc := ⟨.hbm, 63, rfl⟩
abbrev main_call0_call3_v0 : Ref sig .tc := ⟨.hbm, 64, rfl⟩
abbrev main_call0_call3_v1 : Ref sig .tc := ⟨.hbm, 65, rfl⟩
abbrev main_call0_call3_v2 : Ref sig .tc := ⟨.hbm, 66, rfl⟩
abbrev main_call0_v39 : Ref sig .tc := ⟨.hbm, 67, rfl⟩
abbrev main_call0_v40 : Ref sig .tc := ⟨.hbm, 68, rfl⟩
abbrev main_call0_v41 : Ref sig .tc := ⟨.hbm, 69, rfl⟩
abbrev main_call0_v42 : Ref sig .tc := ⟨.hbm, 70, rfl⟩
abbrev main_call0_v43 : Ref sig .tc := ⟨.hbm, 71, rfl⟩
abbrev main_call0_v44 : Ref sig .tc := ⟨.hbm, 72, rfl⟩
abbrev main_call0_v45 : Ref sig .tc := ⟨.hbm, 73, rfl⟩
abbrev main_call0_v46 : Ref sig .tc := ⟨.hbm, 74, rfl⟩
abbrev main_call0_v47 : Ref sig .tc := ⟨.hbm, 75, rfl⟩
abbrev main_call0_v48 : Ref sig .tc := ⟨.hbm, 76, rfl⟩
abbrev main_call0_v49 : Ref sig .tc := ⟨.hbm, 77, rfl⟩
abbrev main_call0_v50 : Ref sig .tc := ⟨.hbm, 78, rfl⟩
abbrev main_call0_cst_7 : Ref sig .tc := ⟨.hbm, 79, rfl⟩
abbrev main_call0_v51 : Ref sig .tc := ⟨.hbm, 80, rfl⟩
abbrev main_call0_cst_8 : Ref sig .tc := ⟨.hbm, 81, rfl⟩
abbrev main_call0_v52 : Ref sig .tc := ⟨.hbm, 82, rfl⟩
abbrev main_call0_v53 : Ref sig .tc := ⟨.hbm, 83, rfl⟩
abbrev main_call0_v54 : Ref sig .tc := ⟨.hbm, 84, rfl⟩
abbrev main_call0_c_9 : Ref sig .tc := ⟨.hbm, 85, rfl⟩
abbrev main_call0_v55 : Ref sig .tc := ⟨.hbm, 86, rfl⟩
abbrev main_call0_v56 : Ref sig .tc := ⟨.hbm, 87, rfl⟩
abbrev main_call0_v57 : Ref sig .tc := ⟨.hbm, 88, rfl⟩
abbrev main_call0_v58 : Ref sig .tc := ⟨.hbm, 89, rfl⟩
abbrev main_call0_v59 : Ref sig .tc := ⟨.hbm, 90, rfl⟩
abbrev main_call0_v60 : Ref sig .tc := ⟨.hbm, 91, rfl⟩
abbrev main_call0_v61 : Ref sig .tc := ⟨.hbm, 92, rfl⟩
abbrev main_call0_v62 : Ref sig .tc := ⟨.hbm, 93, rfl⟩
abbrev main_call0_cst_10 : Ref sig .tc := ⟨.hbm, 94, rfl⟩
abbrev main_call0_v63 : Ref sig .tc := ⟨.hbm, 95, rfl⟩
abbrev main_call0_cst_11 : Ref sig .tc := ⟨.hbm, 96, rfl⟩
abbrev main_call0_v64 : Ref sig .tc := ⟨.hbm, 97, rfl⟩
abbrev main_call0_v65 : Ref sig .tc := ⟨.hbm, 98, rfl⟩
abbrev main_call0_v66 : Ref sig .tc := ⟨.hbm, 99, rfl⟩
abbrev main_call0_v67 : Ref sig .tc := ⟨.hbm, 100, rfl⟩
abbrev main_call0_v68 : Ref sig .tc := ⟨.hbm, 101, rfl⟩
abbrev main_call0_v69 : Ref sig .tc := ⟨.hbm, 102, rfl⟩
abbrev main_call0_v70 : Ref sig .tc := ⟨.hbm, 103, rfl⟩
abbrev main_call0_v71 : Ref sig .tc := ⟨.hbm, 104, rfl⟩
abbrev main_call0_v72 : Ref sig .tc := ⟨.hbm, 105, rfl⟩
abbrev main_call0_v73 : Ref sig .tc := ⟨.hbm, 106, rfl⟩
abbrev main_call0_v74 : Ref sig .tc := ⟨.hbm, 107, rfl⟩
abbrev main_call0_v75 : Ref sig .tc := ⟨.hbm, 108, rfl⟩
abbrev main_call0_v76 : Ref sig .tc := ⟨.hbm, 109, rfl⟩
abbrev main_call0_v77 : Ref sig .tc := ⟨.hbm, 110, rfl⟩
abbrev main_call0_c_12 : Ref sig .tc := ⟨.hbm, 111, rfl⟩
abbrev main_call0_v78 : Ref sig .tc := ⟨.hbm, 112, rfl⟩
abbrev main_call0_v79 : Ref sig .tc := ⟨.hbm, 113, rfl⟩
abbrev main_call0_c_13 : Ref sig .tc := ⟨.hbm, 114, rfl⟩
abbrev main_call0_v80 : Ref sig .tc := ⟨.hbm, 115, rfl⟩
abbrev main_call0_v81 : Ref sig .tc := ⟨.hbm, 116, rfl⟩
abbrev main_call0_v82 : Ref sig .tc := ⟨.hbm, 117, rfl⟩
abbrev main_call0_v83 : Ref sig .tc := ⟨.hbm, 118, rfl⟩
abbrev main_call0_c_14 : Ref sig .tc := ⟨.hbm, 119, rfl⟩
abbrev main_call0_v84 : Ref sig .tc := ⟨.hbm, 120, rfl⟩
abbrev main_call0_v85 : Ref sig .tc := ⟨.hbm, 121, rfl⟩
abbrev main_call0_v86 : Ref sig .tc := ⟨.hbm, 122, rfl⟩
abbrev main_call0_v87 : Ref sig .tc := ⟨.hbm, 123, rfl⟩
abbrev main_call0_v88 : Ref sig .tc := ⟨.hbm, 124, rfl⟩
abbrev main_call0_v89 : Ref sig .tc := ⟨.hbm, 125, rfl⟩
abbrev main_call0_c_15 : Ref sig .tc := ⟨.hbm, 126, rfl⟩
abbrev main_call0_v90 : Ref sig .tc := ⟨.hbm, 127, rfl⟩
abbrev main_call0_v91 : Ref sig .tc := ⟨.hbm, 128, rfl⟩
abbrev main_call0_cst_16 : Ref sig .tc := ⟨.hbm, 129, rfl⟩
abbrev main_call0_cst_17 : Ref sig .tc := ⟨.hbm, 130, rfl⟩
abbrev main_call0_call5_v0 : Ref sig .tc := ⟨.hbm, 131, rfl⟩
abbrev main_call0_call5_v1 : Ref sig .tc := ⟨.hbm, 132, rfl⟩
abbrev main_call0_v92 : Ref sig .tc := ⟨.hbm, 133, rfl⟩
abbrev main_call0_cst_18 : Ref sig .tc := ⟨.hbm, 134, rfl⟩
abbrev main_call0_v93 : Ref sig .tc := ⟨.hbm, 135, rfl⟩
abbrev main_call0_v94 : Ref sig .tc := ⟨.hbm, 136, rfl⟩
abbrev main_call0_v95 : Ref sig .tc := ⟨.hbm, 137, rfl⟩
abbrev main_call0_v96 : Ref sig .tc := ⟨.hbm, 138, rfl⟩
abbrev main_call0_c_19 : Ref sig .tc := ⟨.hbm, 139, rfl⟩
abbrev main_call0_call6_v0 : Ref sig .tc := ⟨.hbm, 140, rfl⟩
abbrev main_call0_call6_c : Ref sig .tc := ⟨.hbm, 141, rfl⟩
abbrev main_call0_call6_v1 : Ref sig .tc := ⟨.hbm, 142, rfl⟩
abbrev main_call0_call6_c_0 : Ref sig .tc := ⟨.hbm, 143, rfl⟩
abbrev main_call0_call6_v2 : Ref sig .tc := ⟨.hbm, 144, rfl⟩
abbrev main_call0_call6_v3 : Ref sig .tc := ⟨.hbm, 145, rfl⟩
abbrev main_call0_call6_v4 : Ref sig .tc := ⟨.hbm, 146, rfl⟩
abbrev main_call0_call6_c_1 : Ref sig .tc := ⟨.hbm, 147, rfl⟩
abbrev main_call0_call6_v5 : Ref sig .tc := ⟨.hbm, 148, rfl⟩
abbrev main_call0_call6_v6 : Ref sig .tc := ⟨.hbm, 149, rfl⟩
abbrev main_call0_call6_c_2 : Ref sig .tc := ⟨.hbm, 150, rfl⟩
abbrev main_call0_call6_v7 : Ref sig .tc := ⟨.hbm, 151, rfl⟩
abbrev main_call0_call6_v8 : Ref sig .tc := ⟨.hbm, 152, rfl⟩
abbrev main_call0_call6_c_3 : Ref sig .tc := ⟨.hbm, 153, rfl⟩
abbrev main_call0_call6_v9 : Ref sig .tc := ⟨.hbm, 154, rfl⟩
abbrev main_call0_call6_v10 : Ref sig .tc := ⟨.hbm, 155, rfl⟩
abbrev main_call0_call6_v11 : Ref sig .tc := ⟨.hbm, 156, rfl⟩
abbrev main_call0_call6_v12 : Ref sig .tc := ⟨.hbm, 157, rfl⟩
abbrev main_call0_call6_v13 : Ref sig .tc := ⟨.hbm, 158, rfl⟩
abbrev main_call0_call6_v14 : Ref sig .tc := ⟨.hbm, 159, rfl⟩
abbrev main_call0_v97 : Ref sig .tc := ⟨.hbm, 160, rfl⟩
abbrev main_call0_v98 : Ref sig .tc := ⟨.hbm, 161, rfl⟩
abbrev main_call0_cst_20 : Ref sig .tc := ⟨.hbm, 162, rfl⟩
abbrev main_call0_v99 : Ref sig .tc := ⟨.hbm, 163, rfl⟩
abbrev main_call0_v100 : Ref sig .tc := ⟨.hbm, 164, rfl⟩
abbrev main_call0_cst_21 : Ref sig .tc := ⟨.hbm, 165, rfl⟩
abbrev main_call0_v101 : Ref sig .tc := ⟨.hbm, 166, rfl⟩
abbrev main_call0_v102 : Ref sig .tc := ⟨.hbm, 167, rfl⟩
abbrev main_call0_v103 : Ref sig .tc := ⟨.hbm, 168, rfl⟩
abbrev main_call0_v104 : Ref sig .tc := ⟨.hbm, 169, rfl⟩
abbrev main_call0_v105 : Ref sig .tc := ⟨.hbm, 170, rfl⟩
abbrev main_call0_v106 : Ref sig .tc := ⟨.hbm, 171, rfl⟩
abbrev main_call0_v107 : Ref sig .tc := ⟨.hbm, 172, rfl⟩
abbrev main_call0_v108 : Ref sig .tc := ⟨.hbm, 173, rfl⟩
abbrev main_call0_v109 : Ref sig .tc := ⟨.hbm, 174, rfl⟩
abbrev main_call0_v110 : Ref sig .tc := ⟨.hbm, 175, rfl⟩
abbrev main_call0_v111 : Ref sig .tc := ⟨.hbm, 176, rfl⟩
abbrev main_call0_v112 : Ref sig .tc := ⟨.hbm, 177, rfl⟩
abbrev main_call0_v113 : Ref sig .tc := ⟨.hbm, 178, rfl⟩
abbrev main_call0_v114 : Ref sig .tc := ⟨.hbm, 179, rfl⟩
abbrev main_call0_v115 : Ref sig .tc := ⟨.hbm, 180, rfl⟩
abbrev main_call0_v116 : Ref sig .tc := ⟨.hbm, 181, rfl⟩
abbrev main_call0_cst_22 : Ref sig .tc := ⟨.hbm, 182, rfl⟩
abbrev main_call0_v117 : Ref sig .tc := ⟨.hbm, 183, rfl⟩
abbrev main_call0_cst_23 : Ref sig .tc := ⟨.hbm, 184, rfl⟩
abbrev main_call0_v118 : Ref sig .tc := ⟨.hbm, 185, rfl⟩
abbrev main_call0_v119 : Ref sig .tc := ⟨.hbm, 186, rfl⟩
abbrev main_call0_v120 : Ref sig .tc := ⟨.hbm, 187, rfl⟩
abbrev main_call0_v121 : Ref sig .tc := ⟨.hbm, 188, rfl⟩
abbrev main_call0_v122 : Ref sig .tc := ⟨.hbm, 189, rfl⟩
abbrev main_call0_v123 : Ref sig .tc := ⟨.hbm, 190, rfl⟩
abbrev main_call0_v124 : Ref sig .tc := ⟨.hbm, 191, rfl⟩
abbrev main_call0_v125 : Ref sig .tc := ⟨.hbm, 192, rfl⟩
abbrev main_call0_v126 : Ref sig .tc := ⟨.hbm, 193, rfl⟩
abbrev main_call0_v127 : Ref sig .tc := ⟨.hbm, 194, rfl⟩
abbrev main_call0_v128 : Ref sig .tc := ⟨.hbm, 195, rfl⟩
abbrev main_call0_v129 : Ref sig .tc := ⟨.hbm, 196, rfl⟩
abbrev main_call0_v130 : Ref sig .tc := ⟨.hbm, 197, rfl⟩
abbrev main_call0_v131 : Ref sig .tc := ⟨.hbm, 198, rfl⟩
abbrev main_call0_v132 : Ref sig .tc := ⟨.hbm, 199, rfl⟩
abbrev main_call0_cst_24 : Ref sig .tc := ⟨.hbm, 200, rfl⟩
abbrev main_call0_v133 : Ref sig .tc := ⟨.hbm, 201, rfl⟩
abbrev main_call0_cst_25 : Ref sig .tc := ⟨.hbm, 202, rfl⟩
abbrev main_call0_v134 : Ref sig .tc := ⟨.hbm, 203, rfl⟩
abbrev main_call0_v135 : Ref sig .tc := ⟨.hbm, 204, rfl⟩
abbrev main_call0_v136 : Ref sig .tc := ⟨.hbm, 205, rfl⟩
abbrev main_call0_v137 : Ref sig .tc := ⟨.hbm, 206, rfl⟩
abbrev main_call0_v138 : Ref sig .tc := ⟨.hbm, 207, rfl⟩
abbrev main_call0_v139 : Ref sig .tc := ⟨.hbm, 208, rfl⟩
abbrev main_call0_v140 : Ref sig .tc := ⟨.hbm, 209, rfl⟩
abbrev main_call0_v141 : Ref sig .tc := ⟨.hbm, 210, rfl⟩
abbrev main_v0 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x64x8192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S32x4096x128 : Shape := ⟨3, ![32, 4096, 128]⟩
abbrev S64x4096 : Shape := ⟨2, ![64, 4096]⟩
abbrev S64 : Shape := ⟨1, ![64]⟩
abbrev S128x4160 : Shape := ⟨2, ![128, 4160]⟩
abbrev S128 : Shape := ⟨1, ![128]⟩
abbrev S720x128 : Shape := ⟨2, ![720, 128]⟩
abbrev S720 : Shape := ⟨1, ![720]⟩
abbrev S2049x4096 : Shape := ⟨2, ![2049, 4096]⟩
abbrev S_ : Shape := ⟨0, ![]⟩
abbrev S32x128x2049 : Shape := ⟨3, ![32, 128, 2049]⟩
abbrev S32x2049x128 : Shape := ⟨3, ![32, 2049, 128]⟩
abbrev S32x128x20 : Shape := ⟨3, ![32, 128, 20]⟩
abbrev S1x1x2049x1 : Shape := ⟨4, ![1, 1, 2049, 1]⟩
abbrev S32x128x1x20 : Shape := ⟨4, ![32, 128, 1, 20]⟩
abbrev S32x128x2049x20 : Shape := ⟨4, ![32, 128, 2049, 20]⟩
abbrev S1x2049x1 : Shape := ⟨3, ![1, 2049, 1]⟩
abbrev S32x128x4096 : Shape := ⟨3, ![32, 128, 4096]⟩
abbrev S32x64x8192 : Shape := ⟨3, ![32, 64, 8192]⟩

abbrev nBuf : Space → Nat
  | .hbm => 80
  | .vmem => 0
  | .smem => 0
  | _ => 0

abbrev bufTy : (tb : Table) → Fin (tcTables nBuf tb) → BufTy
  | .hbm, ⟨0, _⟩ => ⟨S32x4096x128, .f32⟩
  | .hbm, ⟨1, _⟩ => ⟨S64x4096, .f32⟩
  | .hbm, ⟨2, _⟩ => ⟨S64, .f32⟩
  | .hbm, ⟨3, _⟩ => ⟨S128x4160, .f32⟩
  | .hbm, ⟨4, _⟩ => ⟨S128, .f32⟩
  | .hbm, ⟨5, _⟩ => ⟨S720x128, .f32⟩
  | .hbm, ⟨6, _⟩ => ⟨S720, .f32⟩
  | .hbm, ⟨7, _⟩ => ⟨S2049x4096, .i32⟩
  | .hbm, ⟨8, _⟩ => ⟨S2049x4096, .i32⟩
  | .hbm, ⟨9, _⟩ => ⟨S2049x4096, .i32⟩
  | .hbm, ⟨10, _⟩ => ⟨S2049x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2049x4096, .f32⟩
  | .hbm, ⟨16, _⟩ => ⟨S2049x4096, .f32⟩
  | .hbm, ⟨17, _⟩ => ⟨S2049x4096, .f32⟩
  | .hbm, ⟨18, _⟩ => ⟨S32x128x2049, .f32⟩
  | .hbm, ⟨19, _⟩ => ⟨S32x2049x128, .f32⟩
  | .hbm, ⟨20, _⟩ => ⟨S2049x4096, .f32⟩
  | .hbm, ⟨21, _⟩ => ⟨S32x128x2049, .f32⟩
  | .hbm, ⟨22, _⟩ => ⟨S32x2049x128, .f32⟩
  | .hbm, ⟨23, _⟩ => ⟨S32x2049x128, .f32⟩
  | .hbm, ⟨24, _⟩ => ⟨S32x2049x128, .f32⟩
  | .hbm, ⟨25, _⟩ => ⟨S32x2049x128, .f32⟩
  | .hbm, ⟨26, _⟩ => ⟨S32x2049x128, .f32⟩
  | .hbm, ⟨27, _⟩ => ⟨S32x2049x128, .f32⟩
  | .hbm, ⟨28, _⟩ => ⟨S32x128x2049, .f32⟩
  | .hbm, ⟨29, _⟩ => ⟨S32x128x20, .f32⟩
  | .hbm, ⟨30, _⟩ => ⟨S32x128x20, .i32⟩
  | .hbm, ⟨31, _⟩ => ⟨S1x1x2049x1, .i32⟩
  | .hbm, ⟨32, _⟩ => ⟨S32x128x1x20, .i32⟩
  | .hbm, ⟨33, _⟩ => ⟨S32x128x2049x20, .i32⟩
  | .hbm, ⟨34, _⟩ => ⟨S32x128x2049x20, .i32⟩
  | .hbm, ⟨35, _⟩ => ⟨S32x128x2049x20, .i1⟩
  | .hbm, ⟨36, _⟩ => ⟨S_, .i1⟩
  | .hbm, ⟨37, _⟩ => ⟨S32x128x2049, .i1⟩
  | .hbm, ⟨38, _⟩ => ⟨S32x128x2049, .f32⟩
  | .hbm, ⟨39, _⟩ => ⟨S32x2049x128, .f32⟩
  | .hbm, ⟨40, _⟩ => ⟨S32x2049x128, .f32⟩
  | .hbm, ⟨41, _⟩ => ⟨S32x2049x128, .f32⟩
  | .hbm, ⟨42, _⟩ => ⟨S2049x4096, .i32⟩
  | .hbm, ⟨43, _⟩ => ⟨S2049x4096, .i32⟩
  | .hbm, ⟨44, _⟩ => ⟨S2049x4096, .i32⟩
  | .hbm, ⟨45, _⟩ => ⟨S2049x4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2049x4096, .f32⟩
  | .hbm, ⟨51, _⟩ => ⟨S2049x4096, .f32⟩
  | .hbm, ⟨52, _⟩ => ⟨S1x2049x1, .i32⟩
  | .hbm, ⟨53, _⟩ => ⟨S_, .i32⟩
  | .hbm, ⟨54, _⟩ => ⟨S1x2049x1, .i32⟩
  | .hbm, ⟨55, _⟩ => ⟨S1x2049x1, .i1⟩
  | .hbm, ⟨56, _⟩ => ⟨S_, .i32⟩
  | .hbm, ⟨57, _⟩ => ⟨S1x2049x1, .i32⟩
  | .hbm, ⟨58, _⟩ => ⟨S1x2049x1, .i1⟩
  | .hbm, ⟨59, _⟩ => ⟨S1x2049x1, .i1⟩
  | .hbm, ⟨60, _⟩ => ⟨S_, .f32⟩
  | .hbm, ⟨61, _⟩ => ⟨S_, .f32⟩
  | .hbm, ⟨62, _⟩ => ⟨S1x2049x1, .f32⟩
  | .hbm, ⟨63, _⟩ => ⟨S1x2049x1, .f32⟩
  | .hbm, ⟨64, _⟩ => ⟨S1x2049x1, .f32⟩
  | .hbm, ⟨65, _⟩ => ⟨S2049x4096, .f32⟩
  | .hbm, ⟨66, _⟩ => ⟨S1x2049x1, .f32⟩
  | .hbm, ⟨67, _⟩ => ⟨S32x2049x128, .f32⟩
  | .hbm, ⟨68, _⟩ => ⟨S32x2049x128, .f32⟩
  | .hbm, ⟨69, _⟩ => ⟨S32x128x4096, .f32⟩
  | .hbm, ⟨70, _⟩ => ⟨S32x4096x128, .f32⟩
  | .hbm, ⟨71, _⟩ => ⟨S2049x4096, .f32⟩
  | .hbm, ⟨72, _⟩ => ⟨S1x2049x1, .f32⟩
  | .hbm, ⟨73, _⟩ => ⟨S32x2049x128, .f32⟩
  | .hbm, ⟨74, _⟩ => ⟨S32x2049x128, .f32⟩
  | .hbm, ⟨75, _⟩ => ⟨S32x128x4096, .f32⟩
  | .hbm, ⟨76, _⟩ => ⟨S32x4096x128, .f32⟩
  | .hbm, ⟨77, _⟩ => ⟨S32x4096x128, .f32⟩
  | .hbm, ⟨78, _⟩ => ⟨S32x4096x128, .f32⟩
  | .hbm, ⟨79, _⟩ => ⟨S32x64x8192, .f32⟩
  | _, _ => ⟨S32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_values : Ref sig .tc := ⟨.hbm, 29, rfl⟩
abbrev main_indices : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_3 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.Frames.lean ====
/- The frame claims of the three programs and the (empty) ledger between the kernel and its idealization. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.SL.Sem

namespace Cert.Proof.Frames

/-- Every run of the kernel, from any memory, ends with its arguments unchanged and its semaphores at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof.Frames

end
-- ==== Proof.Wave.lean ====
/- The discrete Fourier transform of one real signal of 4096 samples, time 64 a + b and frequency 64 k + f taken apart:
   the two radix-64 stages of the kernel, each way, are the transform written out. Real numbers only. -/
module

public import Mathlib.Analysis.SpecialFunctions.Trigonometric.Basic
public import Mathlib.Algebra.BigOperators.Fin

@[expose] public section

noncomputable section

namespace Cert.Wave

open Real Finset

/-- The angle `2 π p / n`. -/
def ang (p n : ℕ) : ℝ := (p : ℝ) * (π * (2 / (n : ℝ)))

/-- An angle in 64ths of a turn, in 4096ths. -/
theorem ang_64 (p : ℕ) : ang p 64 = ang (64 * p) 4096 := by
  unfold ang; push_cast; ring

/-- Angles add up. -/
theorem ang_add (p q n : ℕ) : ang (p + q) n = ang p n + ang q n := by
  unfold ang; push_cast; ring

/-- Whole turns do not change a cosine. -/
theorem cos_turn (p q : ℕ) : cos (ang (4096 * q + p) 4096) = cos (ang p 4096) := by
  rw [show ang (4096 * q + p) 4096 = ang p 4096 + (q : ℝ) * (2 * π) by unfold ang; push_cast; ring]
  exact cos_add_nat_mul_two_pi _ _

/-- Whole turns do not change a sine. -/
theorem sin_turn (p q : ℕ) : sin (ang (4096 * q + p) 4096) = sin (ang p 4096) := by
  rw [show ang (4096 * q + p) 4096 = ang p 4096 + (q : ℝ) * (2 * π) by unfold ang; push_cast; ring]
  exact sin_add_nat_mul_two_pi _ _

/-- The sign `1, -1, 1, …` as the kernel's table has it. -/
def sgn (t : ℕ) : ℝ := 1 - 2 * ((t % 2 : ℕ) : ℝ)

/-- Half a turn per step. -/
theorem ang_2048 (t : ℕ) : ang (2048 * t) 4096 = (t : ℝ) * π := by
  unfold ang; push_cast; ring

/-- The cosines of frequency 2048 are the alternating signs. -/
theorem cos_half (t : ℕ) : cos (ang (2048 * t) 4096) = sgn t := by
  rw [ang_2048, cos_nat_mul_pi]
  unfold sgn
  rcases Nat.even_or_odd t with h | h
  · rw [h.neg_one_pow, Nat.even_iff.mp h]; norm_num
  · rw [h.neg_one_pow, Nat.odd_iff.mp h]; norm_num

/-- The sines of frequency 2048 vanish. -/
theorem sin_half (t : ℕ) : sin (ang (2048 * t) 4096) = 0 := by
  rw [ang_2048]; exact sin_nat_mul_pi t

/-- The signs depend on the time within a block alone. -/
theorem sgn_block (a b : ℕ) : sgn (64 * a + b) = sgn b := by
  unfold sgn
  rw [show (64 * a + b) % 2 = b % 2 by omega]

variable (X : Fin 64 → Fin 64 → ℝ)

/-- The real part of the transform of the signal `X a b` (time `64 a + b`) at frequency `f`. -/
def re (f : ℕ) : ℝ := ∑ a : Fin 64, ∑ b : Fin 64, X a b * cos (ang (f * (64 * a + b)) 4096)

/-- The imaginary part. -/
def im (f : ℕ) : ℝ := -∑ a : Fin 64, ∑ b : Fin 64, X a b * sin (ang (f * (64 * a + b)) 4096)

/-! ### The kernel's forward stages -/

/-- First stage, cosine rows. -/
def yre (f : ℕ) (b : Fin 64) : ℝ := ∑ a : Fin 64, cos (ang (f * a) 64) * X a b
/-- First stage, sine rows. -/
def yim (f : ℕ) (b : Fin 64) : ℝ := ∑ a : Fin 64, -sin (ang (f * a) 64) * X a b
/-- After the twiddle factors, real part. -/
def ypre (f : ℕ) (b : Fin 64) : ℝ :=
  yre X f b * cos (ang (f * b) 4096) - yim X f b * -sin (ang (f * b) 4096)
/-- After the twiddle factors, imaginary part. -/
def ypim (f : ℕ) (b : Fin 64) : ℝ :=
  yre X f b * -sin (ang (f * b) 4096) + yim X f b * cos (ang (f * b) 4096)

/-- The twiddled first stage as one sum, real part. -/
theorem ypre_eq (f : ℕ) (b : Fin 64) :
    ypre X f b = ∑ a : Fin 64, X a b * cos (ang (f * (64 * a + b)) 4096) := by
  unfold ypre yre yim
  rw [sum_mul, sum_mul, ← sum_sub_distrib]
  refine sum_congr rfl fun a _ => ?_
  rw [show f * (64 * (a : ℕ) + b) = 64 * (f * a) + f * b by ring, ang_add, cos_add, ← ang_64]
  ring

/-- The twiddled first stage as one sum, imaginary part. -/
theorem ypim_eq (f : ℕ) (b : Fin 64) :
    ypim X f b = -∑ a : Fin 64, X a b * sin (ang (f * (64 * a + b)) 4096) := by
  unfold ypim yre yim
  rw [sum_mul, sum_mul, ← sum_add_distrib, ← sum_neg_distrib]
  refine sum_congr rfl fun a _ => ?_
  rw [show f * (64 * (a : ℕ) + b) = 64 * (f * a) + f * b by ring, ang_add, sin_add, ← ang_64]
  ring

/-- Column `j` of the 64 columns holds frequency `j`, or, past 32, the mirrored frequency `96 - j`. -/
def perm (j : ℕ) : ℕ := if j ≤ 32 then j else 96 - j

/-- The frequency in row `k`, column `j`. -/
def bin (k j : ℕ) : ℕ := 64 * k + perm j

/-- Second stage, real part: row `k`, column `j`. -/
def xre (k j : ℕ) : ℝ :=
  if j < 33 then
    (∑ b : Fin 64, cos (ang (k * b) 64) * ypre X j b) - ∑ b : Fin 64, -sin (ang (k * b) 64) * ypim X j b
  else
    (∑ b : Fin 64, cos (ang ((k + 1) * b) 64) * ypre X (j - 32) b)
      + ∑ b : Fin 64, -sin (ang ((k + 1) * b) 64) * ypim X (j - 32) b

/-- Second stage, imaginary part. -/
def xim (k j : ℕ) : ℝ :=
  if j < 33 then
    (∑ b : Fin 64, cos (ang (k * b) 64) * ypim X j b) + ∑ b : Fin 64, -sin (ang (k * b) 64) * ypre X j b
  else
    (∑ b : Fin 64, -sin (ang ((k + 1) * b) 64) * ypre X (j - 32) b)
      - ∑ b : Fin 64, cos (ang ((k + 1) * b) 64) * ypim X (j - 32) b

/-- A product of frequency and time, taken apart. -/
theorem low_angle (k f a b : ℕ) :
    (64 * k + f) * (64 * a + b) = 4096 * (k * a) + (64 * (k * b) + f * (64 * a + b)) := by ring

/-- The angle of a mirrored frequency, up to whole turns. -/
theorem high_angle (k f a b : ℕ) (h : f ≤ 64 * (k + 1)) :
    ang ((64 * (k + 1) - f) * (64 * a + b)) 4096
      = ang (4096 * ((k + 1) * a) + 64 * ((k + 1) * b)) 4096 - ang (f * (64 * a + b)) 4096 := by
  have e : (64 * (k + 1) - f) * (64 * a + b) + f * (64 * a + b) = 4096 * ((k + 1) * a) + 64 * ((k + 1) * b) := by
    rw [← add_mul, Nat.sub_add_cancel h]; ring
  rw [← e, ang_add]; ring

/-- The cosine at a mirrored frequency. -/
theorem cos_high (k f a b : ℕ) (h : f ≤ 64 * (k + 1)) :
    cos (ang ((64 * (k + 1) - f) * (64 * a + b)) 4096)
      = cos (ang ((k + 1) * b) 64) * cos (ang (f * (64 * a + b)) 4096)
        + sin (ang ((k + 1) * b) 64) * sin (ang (f * (64 * a + b)) 4096) := by
  rw [high_angle k f a b h, cos_sub, cos_turn, sin_turn, ang_64]

/-- The sine at a mirrored frequency. -/
theorem sin_high (k f a b : ℕ) (h : f ≤ 64 * (k + 1)) :
    sin (ang ((64 * (k + 1) - f) * (64 * a + b)) 4096)
      = sin (ang ((k + 1) * b) 64) * cos (ang (f * (64 * a + b)) 4096)
        - cos (ang ((k + 1) * b) 64) * sin (ang (f * (64 * a + b)) 4096) := by
  rw [high_angle k f a b h, sin_sub, cos_turn, sin_turn, ang_64]

/-- The kernel's row `k`, column `j` is the real part of the transform at its frequency. -/
theorem xre_eq (k j : ℕ) (hj : j < 64) : xre X k j = re X (bin k j) := by
  unfold xre re bin perm
  rw [sum_comm]
  split <;> rename_i h
  · rw [if_pos (by omega), ← sum_sub_distrib]
    refine sum_congr rfl fun b _ => ?_
    rw [ypre_eq, ypim_eq, mul_neg, mul_sum, mul_sum, sub_neg_eq_add, ← sum_add_distrib]
    refine sum_congr rfl fun a _ => ?_
    rw [low_angle, cos_turn, ang_add, cos_add, ← ang_64]
    ring
  · rw [if_neg (by omega), ← sum_add_distrib, show 64 * k + (96 - j) = 64 * (k + 1) - (j - 32) by omega]
    refine sum_congr rfl fun b _ => ?_
    rw [ypre_eq, ypim_eq, mul_neg, mul_sum, mul_sum, ← sub_eq_add_neg, ← sum_sub_distrib]
    refine sum_congr rfl fun a _ => ?_
    rw [cos_high k (j - 32) a b (by omega)]
    ring

/-- … and its imaginary part. -/
theorem xim_eq (k j : ℕ) (hj : j < 64) : xim X k j = im X (bin k j) := by
  unfold xim im bin perm
  rw [sum_comm, ← sum_neg_distrib]
  split <;> rename_i h
  · rw [if_pos (by omega), ← sum_add_distrib]
    refine sum_congr rfl fun b _ => ?_
    rw [ypre_eq, ypim_eq, mul_neg, mul_sum, mul_sum, ← sum_neg_distrib, ← sum_neg_distrib, ← sum_add_distrib]
    refine sum_congr rfl fun a _ => ?_
    rw [low_angle, sin_turn, ang_add, sin_add, ← ang_64]
    ring
  · rw [if_neg (by omega), ← sum_sub_distrib, show 64 * k + (96 - j) = 64 * (k + 1) - (j - 32) by omega]
    refine sum_congr rfl fun b _ => ?_
    rw [ypre_eq, ypim_eq, mul_neg, mul_sum, mul_sum, sub_neg_eq_add, ← sum_neg_distrib, ← sum_add_distrib]
    refine sum_congr rfl fun a _ => ?_
    rw [sin_high k (j - 32) a b (by omega)]
    ring

/-- The kernel's bin 2048: the first row of the first stage, with alternating signs. -/
def nyq : ℝ := ∑ b : Fin 64, yre X 0 b * sgn b

/-- The alternating sum is the real part of the transform at frequency 2048. -/
theorem nyq_eq : nyq X = re X 2048 := by
  unfold nyq re yre
  rw [sum_comm]
  refine sum_congr rfl fun b _ => ?_
  rw [sum_mul]
  refine sum_congr rfl fun a _ => ?_
  rw [cos_half, sgn_block]
  simp [ang]

/-- The imaginary part vanishes at frequency 2048. -/
theorem im_2048 : im X 2048 = 0 := by
  unfold im
  simp only [sin_half, mul_zero, sum_const_zero, neg_zero]

/-! ### The kernel's inverse stages -/

variable (sre sim : Fin 32 → Fin 64 → ℝ)

/-- First inverse stage, real part. -/
def zre (t : ℕ) (j : Fin 64) : ℝ :=
  (∑ k : Fin 32, cos (ang (k * t) 64) * sre k j) - ∑ k : Fin 32, sin (ang (k * t) 64) * sim k j
/-- First inverse stage, imaginary part. -/
def zim (t : ℕ) (j : Fin 64) : ℝ :=
  (∑ k : Fin 32, cos (ang (k * t) 64) * sim k j) + ∑ k : Fin 32, sin (ang (k * t) 64) * sre k j
/-- After the twiddle factors, real part. -/
def zpre (t : ℕ) (j : Fin 64) : ℝ :=
  zre sre sim t j * cos (ang (t * perm j) 4096) - zim sre sim t j * sin (ang (t * perm j) 4096)
/-- After the twiddle factors, imaginary part. -/
def zpim (t : ℕ) (j : Fin 64) : ℝ :=
  zim sre sim t j * cos (ang (t * perm j) 4096) + zre sre sim t j * sin (ang (t * perm j) 4096)

/-- The twiddled first inverse stage as one sum, real part. -/
theorem zpre_eq (t : ℕ) (j : Fin 64) : zpre sre sim t j = ∑ k : Fin 32,
    (sre k j * cos (ang (64 * (k * t) + t * perm j) 4096) - sim k j * sin (ang (64 * (k * t) + t * perm j) 4096)) := by
  unfold zpre zre zim
  rw [← sum_sub_distrib, ← sum_add_distrib, sum_mul, sum_mul, ← sum_sub_distrib]
  refine sum_congr rfl fun k _ => ?_
  rw [ang_add, cos_add, sin_add, ← ang_64]
  ring

/-- The twiddled first inverse stage as one sum, imaginary part. -/
theorem zpim_eq (t : ℕ) (j : Fin 64) : zpim sre sim t j = ∑ k : Fin 32,
    (sre k j * sin (ang (64 * (k * t) + t * perm j) 4096) + sim k j * cos (ang (64 * (k * t) + t * perm j) 4096)) := by
  unfold zpim zre zim
  rw [← sum_sub_distrib, ← sum_add_distrib, sum_mul, sum_mul, ← sum_add_distrib]
  refine sum_congr rfl fun k _ => ?_
  rw [ang_add, cos_add, sin_add, ← ang_64]
  ring

/-- Second inverse stage: the real signal at time `64 m + t`, without bin 2048. -/
def xf (m t : ℕ) : ℝ :=
  (∑ j : Fin 64, cos (ang (m * perm j) 64) * zpre sre sim t j)
    - ∑ j : Fin 64, sin (ang (m * perm j) 64) * zpim sre sim t j

/-- The two inverse stages are the inverse transform written out over the rows and columns. -/
theorem xf_eq (m t : ℕ) : xf sre sim m t = ∑ k : Fin 32, ∑ j : Fin 64,
    (sre k j * cos (ang (bin k j * (64 * m + t)) 4096) - sim k j * sin (ang (bin k j * (64 * m + t)) 4096)) := by
  unfold xf
  rw [sum_comm, ← sum_sub_distrib]
  refine sum_congr rfl fun j _ => ?_
  rw [zpre_eq, zpim_eq, mul_sum, mul_sum, ← sum_sub_distrib]
  refine sum_congr rfl fun k _ => ?_
  rw [show bin k j * (64 * m + t) = 4096 * (k * m) + (64 * (m * perm j) + (64 * (k * t) + t * perm j)) by
    unfold bin; ring, cos_turn, sin_turn, ang_add (64 * (m * perm j)), cos_add (ang (64 * (m * perm j)) 4096),
    sin_add (ang (64 * (m * perm j)) 4096), ← ang_64 (m * perm j)]
  ring

/-! ### Rows and columns against frequencies, blocks against times -/

/-- The order of the columns stays among the columns. -/
theorem perm_lt (j : Fin 64) : perm j < 64 := by unfold perm; split <;> omega

/-- The order of the columns is its own inverse. -/
theorem perm_perm (j : ℕ) (h : j < 64) : perm (perm j) = j := by
  unfold perm
  by_cases h1 : j ≤ 32
  · rw [if_pos h1, if_pos h1]
  · rw [if_neg h1]
    by_cases h2 : 96 - j ≤ 32
    · omega
    · rw [if_neg h2]; omega

/-- Different columns hold different frequencies. -/
theorem perm_inj {i j : ℕ} (hi : i < 64) (hj : j < 64) (h : perm i = perm j) : i = j := by
  rw [← perm_perm i hi, h, perm_perm j hj]

/-- The frequencies of the rows and columns lie below 2048. -/
theorem bin_lt (k : Fin 32) (j : Fin 64) : bin k j < 2048 := by
  have := perm_lt j; unfold bin; omega

/-- Every frequency below 2048 stands in some row and column. -/
theorem exists_bin (f : ℕ) (hf : f < 2048) : ∃ (k : Fin 32) (j : Fin 64), bin k j = f := by
  refine ⟨⟨f / 64, by omega⟩, ⟨perm (f % 64), perm_lt ⟨f % 64, by omega⟩⟩, ?_⟩
  unfold bin
  rw [perm_perm _ (by omega)]
  show 64 * (f / 64) + f % 64 = f
  omega

/-- The order of the columns, as a permutation. -/
def permEquiv : Equiv.Perm (Fin 64) where
  toFun j := ⟨perm j, perm_lt j⟩
  invFun j := ⟨perm j, perm_lt j⟩
  left_inv j := Fin.ext (perm_perm j j.isLt)
  right_inv j := Fin.ext (perm_perm j j.isLt)

/-- A sum over `m n` numbers, taken apart into `m` blocks of `n`. -/
theorem sum_blocks {A : Type} [AddCommMonoid A] (m n N : ℕ) (h : N = m * n) (F : ℕ → A) :
    ∑ i : Fin N, F i = ∑ a : Fin m, ∑ b : Fin n, F (n * a + b) := by
  subst h
  rw [← Fintype.sum_prod_type', ← finProdFinEquiv.sum_comp]
  refine sum_congr rfl fun p _ => ?_
  rw [finProdFinEquiv_apply_val, add_comm]

/-- A sum over the rows and columns is a sum over the frequencies below 2048. -/
theorem sum_bins (F : ℕ → ℝ) : ∑ k : Fin 32, ∑ j : Fin 64, F (bin k j) = ∑ f : Fin 2048, F f := by
  rw [sum_blocks 32 64 2048 rfl F]
  refine sum_congr rfl fun k _ => ?_
  exact Equiv.sum_comp permEquiv (fun j : Fin 64 => F (64 * k + j))

end Cert.Wave

end
-- ==== Proof.Forward.lean ====
/- The kernel's forward half at one channel: on a block of real numbers and the tables of cosines and sines, its stages
   hold the Fourier transform of the channel. -/
module

public import proofs.«01_k».proof.Proof.Gen.KernelIdeal.Skeleton
public import proofs.«01_k».proof.Proof.Wave
public import Idealize.ShloMosaic.Lib.Pointwise

@[expose] public section

set_option maxRecDepth 16384

noncomputable section

namespace Cert.Body

open Idealize.ShloMosaic Cert.KernelIdeal Cert.KernelIdeal.Gen Cert.Wave

/-- Lane `128 n + c`: column `n` of channel `c`. -/
abbrev ln (c : Fin 128) (n : Fin 64) : Fin 8192 := ⟨n * 128 + c, by omega⟩

/-- A sum of reals is the same among the extended reals. -/
theorem coe_sum {n : ℕ} (F : Fin n → ℝ) : ((∑ i, F i : ℝ) : EReal) = ∑ i, (F i : EReal) := by
  induction n with
  | zero => simp
  | succ n ih => rw [Fin.sum_univ_succ, Fin.sum_univ_succ, EReal.coe_add, ih]

/-- The kernel's product in three parts: over the reals the low parts are nothing, and the product is exact. -/
theorem mm3 {n : ℕ} (h x : Fin n → ℝ) :
    ∑ i, (h i : EReal) * (x i : EReal) + ∑ i, (h i : EReal) * ((x i : EReal) - (x i : EReal))
      + ∑ i, (0 : EReal) * (x i : EReal) = ((∑ i, h i * x i : ℝ) : EReal) := by
  have e : ∀ i, (x i : EReal) - (x i : EReal) = 0 := fun i => by rw [← EReal.coe_sub, sub_self, EReal.coe_zero]
  simp only [e, mul_zero, zero_mul, Finset.sum_const_zero, add_zero, coe_sum, EReal.coe_mul]

/-- The thirteen table operands of the kernel hold the cosines, sines, weights and signs (only the rows that are read). -/
structure Tables (x1 x2 : Vec Ideal S80x64 .bf16) (x3 x4 : Vec Ideal S40x8192 .f32) (x5 x6 : Vec Ideal S128x64 .bf16)
    (x7 : Vec Ideal S32x8192 .f32) (x8 : Vec Ideal S1x8192 .f32) (x9 : Vec Ideal S128x32 .f32)
    (x10 x11 : Vec Ideal S64x8192 .f32) (x12 x13 : Vec Ideal S64x64 .bf16) : Prop where
  l1c : ∀ (f : Fin 33) (a : Fin 64), x1 (ix2 ⟨f, by omega⟩ a) = ((Real.cos (ang (f * a) 64) : ℝ) : EReal)
  l1s : ∀ (f : Fin 33) (a : Fin 64), x1 (ix2 ⟨40 + f, by omega⟩ a) = ((-Real.sin (ang (f * a) 64) : ℝ) : EReal)
  l1l : ∀ (r : Fin 80) (a : Fin 64), x2 (ix2 r a) = (0 : EReal)
  tc : ∀ (c : Fin 128) (f : Fin 33) (n : Fin 64),
    x3 (ix2 ⟨f, by omega⟩ (ln c n)) = ((Real.cos (ang (f * n) 4096) : ℝ) : EReal)
  ts : ∀ (c : Fin 128) (f : Fin 33) (n : Fin 64),
    x4 (ix2 ⟨f, by omega⟩ (ln c n)) = ((-Real.sin (ang (f * n) 4096) : ℝ) : EReal)
  l2c : ∀ (k : Fin 32) (b : Fin 64), x5 (ix2 ⟨k, by omega⟩ b) = ((Real.cos (ang (k * b) 64) : ℝ) : EReal)
  l2s : ∀ (k : Fin 32) (b : Fin 64), x5 (ix2 ⟨32 + k, by omega⟩ b) = ((-Real.sin (ang (k * b) 64) : ℝ) : EReal)
  l2cm : ∀ (k : Fin 32) (b : Fin 64), x5 (ix2 ⟨64 + k, by omega⟩ b) = ((Real.cos (ang ((k + 1) * b) 64) : ℝ) : EReal)
  l2sm : ∀ (k : Fin 32) (b : Fin 64), x5 (ix2 ⟨96 + k, by omega⟩ b) = ((-Real.sin (ang ((k + 1) * b) 64) : ℝ) : EReal)
  l2l : ∀ (r : Fin 128) (b : Fin 64), x6 (ix2 r b) = (0 : EReal)
  w : ∀ (c : Fin 128) (k : Fin 32) (j : Fin 64),
    x7 (ix2 k (ln c j)) = (((if bin k j = 0 then 1 else 2) / 4096 : ℝ) : EReal)
  sg : ∀ (c : Fin 128) (n : Fin 64), x8 (ix2 0 (ln c n)) = ((sgn n : ℝ) : EReal)
  lac : ∀ (t : Fin 64) (k : Fin 32), x9 (ix2 ⟨t, by omega⟩ k) = ((Real.cos (ang (k * t) 64) : ℝ) : EReal)
  las : ∀ (t : Fin 64) (k : Fin 32), x9 (ix2 ⟨64 + t, by omega⟩ k) = ((Real.sin (ang (k * t) 64) : ℝ) : EReal)
  uc : ∀ (c : Fin 128) (t j : Fin 64), x10 (ix2 t (ln c j)) = ((Real.cos (ang (t * perm j) 4096) : ℝ) : EReal)
  us : ∀ (c : Fin 128) (t j : Fin 64), x11 (ix2 t (ln c j)) = ((Real.sin (ang (t * perm j) 4096) : ℝ) : EReal)
  fc : ∀ m j : Fin 64, x12 (ix2 m j) = ((Real.cos (ang (m * perm j) 64) : ℝ) : EReal)
  fs : ∀ m j : Fin 64, x13 (ix2 m j) = ((Real.sin (ang (m * perm j) 64) : ℝ) : EReal)

section
variable {x0 : Vec Ideal S1x64x8192 .f32} {x1 x2 : Vec Ideal S80x64 .bf16} {x3 x4 : Vec Ideal S40x8192 .f32}
  {x5 x6 : Vec Ideal S128x64 .bf16} {x7 : Vec Ideal S32x8192 .f32} {x8 : Vec Ideal S1x8192 .f32}
  {x9 : Vec Ideal S128x32 .f32} {x10 x11 : Vec Ideal S64x8192 .f32} {x12 x13 : Vec Ideal S64x64 .bf16}
  (T : Tables x1 x2 x3 x4 x5 x6 x7 x8 x9 x10 x11 x12 x13) (c : Fin 128) {X : Fin 64 → Fin 64 → ℝ}
  (hx : ∀ a n, x0 (ix3 0 a (ln c n)) = (X a n : EReal))

/-- The first stage at a row whose table row is the real row `h`. -/
theorem pay3_at (hx : ∀ a n, x0 (ix3 0 a (ln c n)) = (X a n : EReal)) (r : Fin 80) (n : Fin 64)
    (h : Fin 64 → ℝ) (h1 : ∀ a, x1 (ix2 r a) = (h a : EReal)) (h2 : ∀ a, x2 (ix2 r a) = (0 : EReal)) :
    k0_pay3 x0 x1 x2 (ix2 r (ln c n)) = ((∑ a, h a * X a n : ℝ) : EReal) := by
  pointwise [k0_pay3, k0_pay2]
  simp only [hx, h1, h2]
  exact mm3 h (fun a => X a n)

include T hx in
/-- The first stage's cosine rows. -/
theorem yre_at (f : Fin 33) (n : Fin 64) :
    k0_pay3 x0 x1 x2 (ix2 ⟨f, by omega⟩ (ln c n)) = ((yre X f n : ℝ) : EReal) :=
  pay3_at c hx _ n _ (T.l1c f) (T.l1l _)

include T hx in
/-- The first stage's sine rows. -/
theorem yim_at (f : Fin 33) (n : Fin 64) :
    k0_pay3 x0 x1 x2 (ix2 ⟨40 + f, by omega⟩ (ln c n)) = ((yim X f n : ℝ) : EReal) :=
  pay3_at c hx _ n _ (T.l1s f) (T.l1l _)

include T hx in
/-- The kernel's bin 2048. -/
theorem nyq_at : k0_pay6 x0 x1 x2 x8 (ix2 0 c) = ((nyq X : ℝ) : EReal) := by
  pointwise [k0_pay6, k0_pay4]
  rw [nyq, coe_sum]
  refine Finset.sum_congr rfl fun n _ => ?_
  rw [EReal.coe_mul, ← T.sg c n]
  exact congrArg (· * _) (yre_at T c hx 0 n)

include T hx in
/-- After the twiddle factors, the real part. -/
theorem ypre_at (f : Fin 33) (n : Fin 64) :
    k0_pay7 x0 x1 x2 x3 x4 (ix2 ⟨f, by omega⟩ (ln c n)) = ((ypre X f n : ℝ) : EReal) := by
  have h1 := yre_at T c hx f n
  have h2 := yim_at T c hx f n
  have h3 := T.tc c f n
  have h4 := T.ts c f n
  pointwise [k0_pay7, k0_pay4, k0_pay5]
  simp only [h1, h2, h3, h4, ypre, EReal.coe_sub, EReal.coe_mul]

include T hx in
/-- After the twiddle factors, the imaginary part. -/
theorem ypim_at (f : Fin 33) (n : Fin 64) :
    k0_pay8 x0 x1 x2 x4 x3 (ix2 ⟨f, by omega⟩ (ln c n)) = ((ypim X f n : ℝ) : EReal) := by
  have h1 := yre_at T c hx f n
  have h2 := yim_at T c hx f n
  have h3 := T.tc c f n
  have h4 := T.ts c f n
  pointwise [k0_pay8, k0_pay4, k0_pay5]
  simp only [h1, h2, h3, h4, ypim, EReal.coe_add, EReal.coe_mul]

end

/-- The second stage at a row whose table row is the real row `h`, on column `j` of a block of real numbers. -/
theorem pay9_at (c : Fin 128) {v30 : FVec Ideal S40x8192 .f32} {x5 x6 : Vec Ideal S128x64 .bf16} (r : Fin 128)
    (j : Fin 40) (Y h : Fin 64 → ℝ) (hy : ∀ b, v30 (ix2 j (ln c b)) = (Y b : EReal))
    (h5 : ∀ b, x5 (ix2 r b) = (h b : EReal)) (h6 : ∀ b, x6 (ix2 r b) = (0 : EReal)) :
    k0_pay9 v30 x5 x6 (ix2 r ⟨j * 128 + c, by omega⟩) = ((∑ b, h b * Y b : ℝ) : EReal) := by
  pointwise [k0_pay9]
  simp only [hy, h5, h6]
  exact mm3 h Y

/-- The imaginary part goes through the second stage as the real part does. -/
theorem pay10_eq (v : FVec Ideal S40x8192 .f32) (x5 x6 : Vec Ideal S128x64 .bf16) :
    k0_pay10 v x5 x6 = k0_pay9 v x5 x6 := rfl

section
variable {v30 v37 : FVec Ideal S40x8192 .f32} {x1 x2 : Vec Ideal S80x64 .bf16} {x3 x4 : Vec Ideal S40x8192 .f32}
  {x5 x6 : Vec Ideal S128x64 .bf16} {x7 : Vec Ideal S32x8192 .f32} {x8 : Vec Ideal S1x8192 .f32}
  {x9 : Vec Ideal S128x32 .f32} {x10 x11 : Vec Ideal S64x8192 .f32} {x12 x13 : Vec Ideal S64x64 .bf16}
  (T : Tables x1 x2 x3 x4 x5 x6 x7 x8 x9 x10 x11 x12 x13) (c : Fin 128) {X : Fin 64 → Fin 64 → ℝ}
  (hp : ∀ (f : Fin 33) n, v30 (ix2 ⟨f, by omega⟩ (ln c n)) = (ypre X f n : EReal))
  (hq : ∀ (f : Fin 33) n, v37 (ix2 ⟨f, by omega⟩ (ln c n)) = (ypim X f n : EReal))

include T hp hq in
/-- The spectrum's real part at row `k`, column `j`. -/
theorem xre_at (k : Fin 32) (j : Fin 64) :
    k0_pay15 (k0_pay13 v30 v37 x5 x6 x5 x6) (k0_pay14 v30 v37 x5 x6 x5 x6) (ix2 k (ln c j))
      = ((xre X k j : ℝ) : EReal) := by
  pointwise [k0_pay15, k0_pay13, k0_pay14, pay10_eq]
  by_cases hj : (j : ℕ) < 33
  · rw [dif_pos (by omega), xre, if_pos hj, EReal.coe_sub,
      ← pay9_at c ⟨k, by omega⟩ ⟨j, by omega⟩ _ _ (hp ⟨j, hj⟩) (T.l2c k) (T.l2l _),
      ← pay9_at c ⟨32 + k, by omega⟩ ⟨j, by omega⟩ _ _ (hq ⟨j, hj⟩) (T.l2s k) (T.l2l _)]
  · have e : 128 + ((j : ℕ) * 128 + c - 4224) = (j - 32) * 128 + c := by omega
    rw [dif_neg (by omega), xre, if_neg hj, EReal.coe_add,
      ← pay9_at c ⟨64 + k, by omega⟩ ⟨j - 32, by omega⟩ _ _ (hp ⟨j - 32, by omega⟩) (T.l2cm k) (T.l2l _),
      ← pay9_at c ⟨96 + k, by omega⟩ ⟨j - 32, by omega⟩ _ _ (hq ⟨j - 32, by omega⟩) (T.l2sm k) (T.l2l _)]
    simp only [e]

include T hp hq in
/-- The spectrum's imaginary part at row `k`, column `j`. -/
theorem xim_at (k : Fin 32) (j : Fin 64) :
    k0_pay16 (k0_pay11 v30 v37 x5 x6 x5 x6) (k0_pay12 v30 v37 x5 x6 x5 x6) (ix2 k (ln c j))
      = ((xim X k j : ℝ) : EReal) := by
  pointwise [k0_pay16, k0_pay11, k0_pay12, pay10_eq]
  by_cases hj : (j : ℕ) < 33
  · rw [dif_pos (by omega), xim, if_pos hj, EReal.coe_add,
      ← pay9_at c ⟨k, by omega⟩ ⟨j, by omega⟩ _ _ (hq ⟨j, hj⟩) (T.l2c k) (T.l2l _),
      ← pay9_at c ⟨32 + k, by omega⟩ ⟨j, by omega⟩ _ _ (hp ⟨j, hj⟩) (T.l2s k) (T.l2l _)]
  · have e : 128 + ((j : ℕ) * 128 + c - 4224) = (j - 32) * 128 + c := by omega
    rw [dif_neg (by omega), xim, if_neg hj, EReal.coe_sub,
      ← pay9_at c ⟨96 + k, by omega⟩ ⟨j - 32, by omega⟩ _ _ (hp ⟨j - 32, by omega⟩) (T.l2sm k) (T.l2l _),
      ← pay9_at c ⟨64 + k, by omega⟩ ⟨j - 32, by omega⟩ _ _ (hq ⟨j - 32, by omega⟩) (T.l2cm k) (T.l2l _)]
    simp only [e]

end

end Cert.Body

end
-- ==== Proof.Pick.lean ====
/- The choice of the 20 greatest of 2049 numbers: what a stable descending order says of it, and the kernel's way, which
   takes the maxima of the first 2048 numbers off one by one from columns of two and compares number 2048 at the end. -/
module

public import Mathlib.Data.EReal.Basic
public import Mathlib.Algebra.Order.Group.Nat

@[expose] public section

namespace Cert.Pick

variable {M : ℕ → ℝ} {σ g : ℕ → ℕ}

/-- `σ 0, …, σ 20` are the places of the 21 greatest of `M 0, …, M 2048`, all different, the greatest first. -/
structure Top (M : ℕ → ℝ) (σ : ℕ → ℕ) : Prop where
  desc : ∀ i j, i < j → j ≤ 20 → M (σ j) < M (σ i)
  rest : ∀ f, f ≤ 2048 → (∀ i, i ≤ 20 → σ i ≠ f) → M f ≤ M (σ 20)
  le : ∀ i, i ≤ 20 → σ i ≤ 2048

/-- `g 0, …, g 19` are the places of the 20 greatest of `M 0, …, M 2047`, all different, the greatest first. -/
structure Main (M : ℕ → ℝ) (g : ℕ → ℕ) : Prop where
  desc : ∀ i j, i < j → j ≤ 19 → M (g j) < M (g i)
  rest : ∀ f, f < 2048 → (∀ i, i ≤ 19 → g i ≠ f) → M f ≤ M (g 19)
  lt : ∀ i, i ≤ 19 → g i < 2048

/-- The first 21 places are different. -/
theorem Top.inj (h : Top M σ) {i j : ℕ} (hi : i ≤ 20) (hj : j ≤ 20) (e : σ i = σ j) : i = j := by
  rcases lt_trichotomy i j with hl | hl | hl
  · have := h.desc i j hl hj; rw [e] at this; exact absurd this (lt_irrefl _)
  · exact hl
  · have := h.desc j i hl hi; rw [e] at this; exact absurd this (lt_irrefl _)

/-- Being at least the number in place `q` of the order is being in one of the places up to `q`. -/
theorem Top.ge_iff (h : Top M σ) {q f : ℕ} (hq : q ≤ 19) (hf : f ≤ 2048) :
    M (σ q) ≤ M f ↔ ∃ i, i ≤ q ∧ σ i = f := by
  constructor
  · intro hle
    by_contra hne
    push Not at hne
    by_cases hex : ∃ i, i ≤ 20 ∧ σ i = f
    · obtain ⟨i, hi, rfl⟩ := hex
      have hqi : q < i := by
        by_contra hc
        exact hne i (by omega) rfl
      exact absurd (h.desc q i hqi hi) (not_lt.mpr hle)
    · push Not at hex
      have h1 := h.rest f hf hex
      have h2 := h.desc q 20 (by omega) le_rfl
      exact absurd (lt_of_le_of_lt h1 h2) (not_lt.mpr hle)
  · rintro ⟨i, hi, rfl⟩
    rcases Nat.lt_or_ge i q with hl | hl
    · exact (h.desc i q hl (by omega)).le
    · rw [show i = q by omega]

/-- The order of the first 2048 numbers, from that of all 2049; and the kernel's two comparisons against its last two
    maxima decide exactly the top 20 of all. -/
theorem Top.main (h : Top M σ) : ∃ g : ℕ → ℕ, Main M g
    ∧ (M (g 19) < M 2048 ↔ ∃ i, i < 20 ∧ σ i = 2048)
    ∧ ∀ f, f < 2048 → ((if M (g 19) < M 2048 then M (g 18) else M (g 19)) ≤ M f ↔ ∃ i, i < 20 ∧ σ i = f) := by
  obtain ⟨p, hp, hp1, hp2⟩ : ∃ p, p ≤ 20 ∧ (p < 20 → σ p = 2048) ∧ (p = 20 → ∀ i, i < 20 → σ i ≠ 2048) := by
    by_cases hex : ∃ i, i < 20 ∧ σ i = 2048
    · obtain ⟨i, hi, e⟩ := hex
      exact ⟨i, by omega, fun _ => e, fun h20 => by omega⟩
    · push Not at hex
      exact ⟨20, le_rfl, fun h20 => by omega, fun _ => hex⟩
  have hne : ∀ i, i < 20 → i ≠ p → σ i ≠ 2048 := by
    intro i hi hip e
    rcases Nat.lt_or_ge p 20 with hl | hl
    · exact hip (h.inj (by omega) hp (e.trans (hp1 hl).symm))
    · exact hp2 (by omega) i hi e
  have h20 : p < 20 → σ 20 ≠ 2048 := fun hl e => by
    have := h.inj le_rfl hp (e.trans (hp1 hl).symm)
    omega
  let g : ℕ → ℕ := fun i => if i < p then σ i else σ (i + 1)
  have glo : ∀ i, i < p → g i = σ i := fun i hi => if_pos hi
  have ghi : ∀ i, p ≤ i → g i = σ (i + 1) := fun i hi => if_neg (by omega)
  have hmain : Main M g := by
    refine ⟨fun i j hij hj => ?_, fun f hf hnot => ?_, fun i hi => ?_⟩
    · rcases Nat.lt_or_ge i p with h1 | h1 <;> rcases Nat.lt_or_ge j p with h2 | h2
      · rw [glo i h1, glo j h2]; exact h.desc i j hij (by omega)
      · rw [glo i h1, ghi j h2]; exact h.desc i (j + 1) (by omega) (by omega)
      · omega
      · rw [ghi i h1, ghi j h2]; exact h.desc (i + 1) (j + 1) (by omega) (by omega)
    · have hσ : ∀ i, i ≤ 20 → i ≠ p → σ i ≠ f := by
        intro i hi hip
        rcases Nat.lt_or_ge i p with h1 | h1
        · rw [← glo i h1]; exact hnot i (by omega)
        · have := hnot (i - 1) (by omega)
          rwa [ghi (i - 1) (by omega), Nat.sub_add_cancel (by omega)] at this
      rcases Nat.lt_or_ge p 20 with h1 | h1
      · rw [ghi 19 (by omega)]
        refine h.rest f (by omega) fun i hi => ?_
        by_cases hip : i = p
        · rw [hip, hp1 h1]; omega
        · exact hσ i hi hip
      · rw [glo 19 (by omega)]
        by_contra hc
        obtain ⟨i, hi, e⟩ := (h.ge_iff (q := 19) le_rfl (by omega : f ≤ 2048)).mp (not_le.mp hc).le
        exact hσ i (by omega) (by omega) e
    · rcases Nat.lt_or_ge i p with h1 | h1
      · rw [glo i h1]
        have := h.le i (by omega)
        have := hne i (by omega) (by omega)
        omega
      · rw [ghi i h1]
        have := h.le (i + 1) (by omega)
        have : σ (i + 1) ≠ 2048 := by
          rcases Nat.lt_or_ge (i + 1) 20 with h2 | h2
          · exact hne (i + 1) h2 (by omega)
          · rw [show i + 1 = 20 by omega]; exact h20 (by omega)
        omega
  refine ⟨g, hmain, ?_⟩
  rcases Nat.lt_or_ge p 20 with h1 | h1
  · have e20 : M (g 19) < M 2048 := by
      rw [ghi 19 (by omega), ← hp1 h1]; exact h.desc p 20 h1 le_rfl
    refine ⟨⟨fun _ => ⟨p, h1, hp1 h1⟩, fun _ => e20⟩, fun f hf => ?_⟩
    rw [if_pos e20]
    rcases Nat.lt_or_ge p 19 with h2 | h2
    · rw [ghi 18 (by omega), h.ge_iff le_rfl (by omega)]
      exact ⟨fun ⟨i, hi, e⟩ => ⟨i, by omega, e⟩, fun ⟨i, hi, e⟩ => ⟨i, by omega, e⟩⟩
    · have hp19 : p = 19 := by omega
      rw [glo 18 (by omega), h.ge_iff (by omega) (by omega)]
      refine ⟨fun ⟨i, hi, e⟩ => ⟨i, by omega, e⟩, fun ⟨i, hi, e⟩ => ⟨i, ?_, e⟩⟩
      by_contra hc
      have : i = p := by omega
      rw [this, hp1 h1] at e
      omega
  · have e20 : ¬ M (g 19) < M 2048 := by
      rw [glo 19 (by omega)]
      intro hc
      obtain ⟨i, hi, e⟩ := (h.ge_iff (q := 19) le_rfl le_rfl).mp hc.le
      exact hp2 (by omega) i (by omega) e
    refine ⟨⟨fun hc => absurd hc e20, fun ⟨i, hi, e⟩ => absurd e (hp2 (by omega) i hi)⟩, fun f hf => ?_⟩
    rw [if_neg e20, glo 19 (by omega), h.ge_iff le_rfl (by omega)]
    exact ⟨fun ⟨i, hi, e⟩ => ⟨i, by omega, e⟩, fun ⟨i, hi, e⟩ => ⟨i, by omega, e⟩⟩

/-! ### Taking the maxima off one by one -/

open Classical in
/-- What the columns still hold after `i` maxima were taken: a taken number stands as -2. -/
noncomputable def left (M : ℕ → ℝ) (g : ℕ → ℕ) (i f : ℕ) : EReal :=
  if ∃ i', i' < i ∧ g i' = f then ((-2 : ℝ) : EReal) else (M f : EReal)

/-- The first 20 places are different. -/
theorem Main.inj (h : Main M g) {i j : ℕ} (hi : i ≤ 19) (hj : j ≤ 19) (e : g i = g j) : i = j := by
  rcases lt_trichotomy i j with hl | hl | hl
  · have := h.desc i j hl hj; rw [e] at this; exact absurd this (lt_irrefl _)
  · exact hl
  · have := h.desc j i hl hi; rw [e] at this; exact absurd this (lt_irrefl _)

/-- Before the first round nothing is taken. -/
theorem left_zero (f : ℕ) : left M g 0 f = (M f : EReal) := by
  unfold left
  rw [if_neg]
  rintro ⟨i, hi, _⟩
  omega

/-- The number in place `i` is still there before round `i`. -/
theorem left_here (h : Main M g) {i : ℕ} (hi : i ≤ 19) : left M g i (g i) = (M (g i) : EReal) := by
  unfold left
  rw [if_neg]
  rintro ⟨i', hi', e⟩
  have := h.inj (by omega) hi e
  omega

/-- Nothing in the columns lies below -2. -/
theorem left_ge (h0 : ∀ f, 0 ≤ M f) (i f : ℕ) : ((-2 : ℝ) : EReal) ≤ left M g i f := by
  unfold left
  split
  · exact le_rfl
  · exact EReal.coe_le_coe_iff.mpr (by linarith [h0 f])

/-- Before round `i`, all other numbers lie strictly below the one in place `i`. -/
theorem left_lt (h : Main M g) (h0 : ∀ f, 0 ≤ M f) {i f : ℕ} (hi : i < 19) (hf : f < 2048) (hne : f ≠ g i) :
    left M g i f < (M (g i) : EReal) := by
  unfold left
  split
  · exact EReal.coe_lt_coe_iff.mpr (by linarith [h0 (g i)])
  · rename_i hnot
    refine EReal.coe_lt_coe_iff.mpr ?_
    by_cases hex : ∃ i', i' ≤ 19 ∧ g i' = f
    · obtain ⟨i', hi', rfl⟩ := hex
      have : i' ≠ i := fun e => hne (by rw [e])
      have : ¬ i' < i := fun hl => hnot ⟨i', hl, rfl⟩
      exact h.desc i i' (by omega) hi'
    · push Not at hex
      exact lt_of_le_of_lt (h.rest f hf hex) (h.desc i 19 hi le_rfl)

/-- Before round `i`, no number lies above the one in place `i`. -/
theorem left_le (h : Main M g) (h0 : ∀ f, 0 ≤ M f) {i f : ℕ} (hi : i ≤ 19) (hf : f < 2048) :
    left M g i f ≤ (M (g i) : EReal) := by
  by_cases hne : f = g i
  · rw [hne, left_here h hi]
  · rcases Nat.lt_or_ge i 19 with hl | hl
    · exact (left_lt h h0 hl hf hne).le
    · have h19 : i = 19 := by omega
      subst h19
      unfold left
      split
      · exact EReal.coe_le_coe_iff.mpr (by linarith [h0 (g 19)])
      · rename_i hnot
        refine EReal.coe_le_coe_iff.mpr (h.rest f hf fun i hi' e => ?_)
        rcases Nat.lt_or_ge i 19 with h1 | h1
        · exact hnot ⟨i, h1, e⟩
        · exact hne (by rw [← e, show i = 19 by omega])

/-- After round `i`, the number in place `i` is taken. -/
theorem left_succ_here (i : ℕ) : left M g (i + 1) (g i) = ((-2 : ℝ) : EReal) := by
  unfold left
  rw [if_pos ⟨i, by omega, rfl⟩]

/-- Round `i` leaves the other numbers. -/
theorem left_succ (i f : ℕ) (hne : f ≠ g i) : left M g (i + 1) f = left M g i f := by
  unfold left
  congr 1
  refine propext ⟨fun ⟨i', hi', e⟩ => ⟨i', ?_, e⟩, fun ⟨i', hi', e⟩ => ⟨i', by omega, e⟩⟩
  have : i' ≠ i := fun h => hne (by rw [← e, h])
  omega

/-- One step on a column of two different places `f₀`, `f₁`: a column whose greater number reaches the maximum gives it
    up, its smaller number moves up and -2 takes its place. -/
theorem step (h : Main M g) (h0 : ∀ f, 0 ≤ M f) {i f₀ f₁ : ℕ} (hi : i < 19) (h₀ : f₀ < 2048) (h₁ : f₁ < 2048)
    (hne : f₀ ≠ f₁) :
    (if (M (g i) : EReal) ≤ max (left M g i f₀) (left M g i f₁)
      then min (left M g i f₀) (left M g i f₁) else max (left M g i f₀) (left M g i f₁))
      = max (left M g (i + 1) f₀) (left M g (i + 1) f₁)
    ∧ (if (M (g i) : EReal) ≤ max (left M g i f₀) (left M g i f₁)
      then ((-2 : ℝ) : EReal) else min (left M g i f₀) (left M g i f₁))
      = min (left M g (i + 1) f₀) (left M g (i + 1) f₁) := by
  by_cases e₀ : f₀ = g i
  · have e₁ : f₁ ≠ g i := fun e => hne (e₀.trans e.symm)
    have hl := left_lt h h0 hi h₁ e₁
    have hg := left_ge (g := g) h0 i f₁
    rw [left_succ i f₁ e₁, e₀, left_here h (by omega), left_succ_here, if_pos (le_max_left _ _), if_pos (le_max_left _ _),
      min_eq_right hl.le, max_eq_right hg, min_eq_left hg]
    exact ⟨rfl, rfl⟩
  · by_cases e₁ : f₁ = g i
    · have hl := left_lt h h0 hi h₀ e₀
      have hg := left_ge (g := g) h0 i f₀
      rw [left_succ i f₀ e₀, e₁, left_here h (by omega), left_succ_here, if_pos (le_max_right _ _), if_pos (le_max_right _ _),
        min_eq_left hl.le, max_eq_left hg, min_eq_right hg]
      exact ⟨rfl, rfl⟩
    · have hn : ¬ (M (g i) : EReal) ≤ max (left M g i f₀) (left M g i f₁) :=
        not_le.mpr (max_lt (left_lt h h0 hi h₀ e₀) (left_lt h h0 hi h₁ e₁))
      rw [left_succ i f₀ e₀, left_succ i f₁ e₁, if_neg hn, if_neg hn]
      exact ⟨rfl, rfl⟩

end Cert.Pick
-- ==== Proof.Loop.lean ====
/- The kernel's nineteen rounds at one channel: each takes the greatest number left off the columns, so that after round
   `i` the columns hold what `Pick.left` says, and a channel's maximum is the number in place `i` of the order. -/
module

public import proofs.«01_k».proof.Proof.Forward
public import proofs.«01_k».proof.Proof.Pick

@[expose] public section

set_option maxRecDepth 16384

noncomputable section

namespace Cert.Body

open Idealize.ShloMosaic Cert.KernelIdeal Cert.KernelIdeal.Gen Cert.Wave

/-- Which cells reach their channel's maximum. -/
def hit (a : FVec Ideal S16x8192 .f32) : IVec S16x8192 1 :=
  cmpf .oge a (broadcastTo S16x8192 (k0_pay78 a) broadcasts_S1x8192_S16x8192)

variable (c : Fin 128) (M : ℕ → ℝ) (g : ℕ → ℕ)

/-- The columns of channel `c` (a column of two cells per row `r < 16` and column `j`) after `i` rounds. -/
structure Inv (top bot : FVec Ideal S16x8192 .f32) (i : ℕ) : Prop where
  top_at : ∀ (r : Fin 16) (j : Fin 64),
    top (ix2 r (ln c j)) = max (Pick.left M g i (bin r j)) (Pick.left M g i (bin (16 + r) j))
  bot_at : ∀ (r : Fin 16) (j : Fin 64),
    bot (ix2 r (ln c j)) = min (Pick.left M g i (bin r j)) (Pick.left M g i (bin (16 + r) j))

variable {c M g}

/-- The word of minus infinity. -/
theorem neg_top_bits : Ideal.ofBits FTy.f32 0xFF800000#32 = (⊥ : EReal) := by
  simp [Ideal.ofBits, Ideal.ieee]

/-- The word of -2. -/
theorem neg_two_bits : Ideal.ofBits FTy.f32 0xC0000000#32 = ((-2 : ℝ) : EReal) := by
  simp [Ideal.ofBits, Ideal.ieee, -EReal.coe_mul]
  norm_num

/-- A maximum taken in two steps, over the columns and the rows, is a bound that is reached. -/
theorem fold_max {p q : ℕ} (F : Fin p → Fin q → EReal) (m : EReal) (hle : ∀ x y, F x y ≤ m) (hex : ∃ x y, F x y = m) :
    Finset.univ.fold max ⊥ (fun x => Finset.univ.fold max ⊥ (F x)) = m := by
  refine le_antisymm ?_ ?_
  · exact Finset.sup_le fun x _ => Finset.sup_le fun y _ => hle x y
  · obtain ⟨x, y, rfl⟩ := hex
    exact (Finset.le_sup (f := F x) (Finset.mem_univ y)).trans
      (Finset.le_sup (f := fun x => Finset.univ.sup (F x)) (Finset.mem_univ x))

/-- The column maximum: if `m` is the greatest entry of channel `c`, every column of channel `c` gets `m`. -/
theorem pay78_at (a : FVec Ideal S16x8192 .f32) (c : Fin 128) (j : Fin 64) (m : EReal)
    (hle : ∀ j r, a (ix2 r (ln c j)) ≤ m) (hex : ∃ j r, a (ix2 r (ln c j)) = m) :
    k0_pay78 a (ix2 0 (ln c j)) = m := by
  pointwise [k0_pay78]
  have e : ((j : ℕ) * 128 + c) % 128 = c := by omega
  simp only [e, neg_top_bits]
  exact fold_max (fun x y => a (ix2 y (ln c x))) m hle hex

/-- The frequencies of the first sixteen rows lie below 2048. -/
theorem bin_lt_row (r : Fin 16) (j : Fin 64) : bin r j < 2048 := bin_lt ⟨r, by omega⟩ j

/-- The frequencies of the last sixteen rows lie below 2048. -/
theorem bin_lt_row' (r : Fin 16) (j : Fin 64) : bin (16 + r) j < 2048 := bin_lt ⟨16 + r, by omega⟩ j

/-- A channel's maximum after `i` rounds is the number in place `i` of the order. -/
theorem Inv.max_at (hg : Pick.Main M g) (h0 : ∀ f, 0 ≤ M f) {top bot : FVec Ideal S16x8192 .f32} {i : ℕ}
    (h : Inv c M g top bot i) (hi : i ≤ 19) (j : Fin 64) : k0_pay78 top (ix2 0 (ln c j)) = (M (g i) : EReal) := by
  refine pay78_at top c j _ (fun j r => ?_) ?_
  · rw [h.top_at]
    exact max_le (Pick.left_le hg h0 hi (bin_lt_row r j)) (Pick.left_le hg h0 hi (bin_lt_row' r j))
  · obtain ⟨k, j, e⟩ := exists_bin (g i) (hg.lt i hi)
    rcases Nat.lt_or_ge k 16 with hk | hk
    · refine ⟨j, ⟨k, hk⟩, ?_⟩
      rw [h.top_at, e, Pick.left_here hg hi]
      exact max_eq_left (Pick.left_le hg h0 hi (bin_lt_row' _ j))
    · refine ⟨j, ⟨k - 16, by omega⟩, ?_⟩
      have ek : 16 + ((⟨k - 16, by omega⟩ : Fin 16) : ℕ) = k := by show 16 + ((k : ℕ) - 16) = k; omega
      rw [h.top_at, ek, e, Pick.left_here hg hi]
      exact max_eq_right (Pick.left_le hg h0 hi (bin_lt_row _ j))

/-- One round. -/
theorem Inv.next (hg : Pick.Main M g) (h0 : ∀ f, 0 ≤ M f) {top bot top' bot' : FVec Ideal S16x8192 .f32}
    {b : IVec S16x8192 1} {i : ℕ} (h : Inv c M g top bot i) (hb : b = hit top) (ht : top' = select b bot top)
    (hbot : bot' = select b k0_pay77 bot) (hi : i < 19) : Inv c M g top' bot' (i + 1) := by
  have key : ∀ (r : Fin 16) (j : Fin 64), _ := fun r j =>
    Pick.step hg h0 hi (bin_lt_row r j) (bin_lt_row' r j) (by unfold bin; omega)
  subst hb ht hbot
  refine ⟨fun r j => ?_, fun r j => ?_⟩
  · rw [← (key r j).1]
    have e := h.max_at hg h0 hi.le j
    have e1 := h.top_at r j
    have e2 := h.bot_at r j
    pointwise [hit]
    simp only [e, e1, e2]
  · rw [← (key r j).2]
    have e := h.max_at hg h0 hi.le j
    have e1 := h.top_at r j
    have e2 := h.bot_at r j
    pointwise [hit, k0_pay77]
    simp only [e, e1, e2, neg_two_bits]

section
variable (hg : Pick.Main M g) (h0 : ∀ f, 0 ≤ M f)
include hg h0

/-- Rounds 1 to 3. -/
theorem rounds_3 {p q : FVec Ideal S32x5120 .f32} {r : FVec Ideal S32x4224 .f32} {s : FVec Ideal S32x3968 .f32}
    (h : Inv c M g (k0_pay18 p q r s) (k0_pay19 p q r s) 0) :
    Inv c M g (k0_pay27 p q r s) (k0_pay29 (k0_pay25 p q r s) (k0_pay26 p q r s) k0_pay28) 3 := by
  have h1 : Inv c M g (k0_pay21 p q r s) (k0_pay22 p q r s) 1 :=
    h.next hg h0 (b := k0_pay20 p q r s) rfl rfl rfl (by omega)
  have h2 : Inv c M g (k0_pay24 p q r s) (k0_pay25 p q r s) 2 :=
    h1.next hg h0 (b := k0_pay23 p q r s) rfl rfl rfl (by omega)
  exact h2.next hg h0 (b := k0_pay26 p q r s) rfl rfl rfl (by omega)

/-- Rounds 4 to 6. -/
theorem rounds_6 {p r s : FVec Ideal S16x8192 .f32} {q : IVec S16x8192 1} (h : Inv c M g r (k0_pay29 p q s) 3) :
    Inv c M g (k0_pay37 p q r s) (k0_pay38 p q r s) 6 := by
  have h4 : Inv c M g (k0_pay31 p q r s) (k0_pay32 p q r s) 4 :=
    h.next hg h0 (b := k0_pay30 r) rfl rfl rfl (by omega)
  have h5 : Inv c M g (k0_pay34 p q r s) (k0_pay35 p q r s) 5 :=
    h4.next hg h0 (b := k0_pay33 p q r s) rfl rfl rfl (by omega)
  exact h5.next hg h0 (b := k0_pay36 p q r s) rfl rfl rfl (by omega)

/-- The seventh round's comparison is the one of every round. -/
theorem hit_39 (p r s : FVec Ideal S16x8192 .f32) (q : IVec S16x8192 1) :
    k0_pay40 (k0_pay37 p q r s) (k0_pay39 p q r s) = hit (k0_pay37 p q r s) := rfl

/-- Rounds 7 to 10. -/
theorem rounds_10 {p q r : FVec Ideal S16x8192 .f32} (h : Inv c M g p q 6) (hb : k0_pay40 p r = hit p) :
    Inv c M g (k0_pay50 p q r) (k0_pay51 p q r) 10 := by
  have h7 : Inv c M g (k0_pay41 p q r) (k0_pay42 p q r) 7 := h.next hg h0 (b := k0_pay40 p r) hb rfl rfl (by omega)
  have h8 : Inv c M g (k0_pay44 p q r) (k0_pay45 p q r) 8 :=
    h7.next hg h0 (b := k0_pay43 p q r) rfl rfl rfl (by omega)
  have h9 : Inv c M g (k0_pay47 p q r) (k0_pay48 p q r) 9 :=
    h8.next hg h0 (b := k0_pay46 p q r) rfl rfl rfl (by omega)
  exact h9.next hg h0 (b := k0_pay49 p q r) rfl rfl rfl (by omega)

/-- Rounds 11 to 14. -/
theorem rounds_14 {p q : FVec Ideal S16x8192 .f32} {r : FVec Ideal S1x128 .f32} (h : Inv c M g p q 10)
    (hb : k0_pay53 p r = hit p) : Inv c M g (k0_pay63 p q r) (k0_pay64 p q r) 14 := by
  have h11 : Inv c M g (k0_pay54 p q r) (k0_pay55 p q r) 11 := h.next hg h0 (b := k0_pay53 p r) hb rfl rfl (by omega)
  have h12 : Inv c M g (k0_pay57 p q r) (k0_pay58 p q r) 12 :=
    h11.next hg h0 (b := k0_pay56 p q r) rfl rfl rfl (by omega)
  have h13 : Inv c M g (k0_pay60 p q r) (k0_pay61 p q r) 13 :=
    h12.next hg h0 (b := k0_pay59 p q r) rfl rfl rfl (by omega)
  exact h13.next hg h0 (b := k0_pay62 p q r) rfl rfl rfl (by omega)

/-- Rounds 15 to 18. -/
theorem rounds_18 {p q : FVec Ideal S16x8192 .f32} {r : FVec Ideal S1x8192 .f32} (h : Inv c M g p q 14)
    (hb : k0_pay66 p r = hit p) :
    Inv c M g (k0_pay76 p q r) (select (k0_pay75 p q r) k0_pay77 (k0_pay74 p q r)) 18 := by
  have h15 : Inv c M g (k0_pay67 p q r) (k0_pay68 p q r) 15 := h.next hg h0 (b := k0_pay66 p r) hb rfl rfl (by omega)
  have h16 : Inv c M g (k0_pay70 p q r) (k0_pay71 p q r) 16 :=
    h15.next hg h0 (b := k0_pay69 p q r) rfl rfl rfl (by omega)
  have h17 : Inv c M g (k0_pay73 p q r) (k0_pay74 p q r) 17 :=
    h16.next hg h0 (b := k0_pay72 p q r) rfl rfl rfl (by omega)
  exact h17.next hg h0 (b := k0_pay75 p q r) rfl rfl rfl (by omega)

/-- The nineteenth greatest number: the maximum after 18 rounds. -/
theorem s19_at {p r s : FVec Ideal S16x8192 .f32} {q : IVec S16x8192 1} (h : Inv c M g r (select q s p) 18)
    (j : Fin 64) : k0_pay78 r (ix2 0 (ln c j)) = (M (g 18) : EReal) :=
  h.max_at hg h0 (by omega) j

/-- The twentieth: the maximum after the last round. -/
theorem s20_at {p r s : FVec Ideal S16x8192 .f32} {q : IVec S16x8192 1} (h : Inv c M g r (select q s p) 18)
    (j : Fin 64) : k0_pay79 p q r s (ix2 0 (ln c j)) = (M (g 19) : EReal) := by
  have h19 := h.next hg h0 (b := hit r) rfl rfl rfl (by omega)
  exact h19.max_at hg h0 le_rfl j

end

end Cert.Body

end
-- ==== Proof.Inverse.lean ====
/- The kernel's inverse half at one channel: from the spectrum, the two thresholds and bin 2048 to the filtered signal. -/
module

public import proofs.«01_k».proof.Proof.Loop

@[expose] public section

set_option maxRecDepth 16384

noncomputable section

namespace Cert.Body

open Idealize.ShloMosaic Cert.KernelIdeal Cert.KernelIdeal.Gen Cert.Wave

/-- The word of 1/4096. -/
theorem inv_4096_bits : Ideal.ofBits FTy.f32 0x39800000#32 = ((1 / 4096 : ℝ) : EReal) := by
  simp [Ideal.ofBits, Ideal.ieee, -EReal.coe_mul]
  norm_num

/-- The word of zero. -/
theorem zero_bits : Ideal.ofBits FTy.f32 0x00000000#32 = (0 : EReal) := by
  simp [Ideal.ofBits, Ideal.ieee]

/-- Before the first round the columns hold the larger and the smaller of their two numbers. -/
theorem inv_start {c : Fin 128} {M : ℕ → ℝ} {g : ℕ → ℕ} {p q : FVec Ideal S32x5120 .f32} {r : FVec Ideal S32x4224 .f32}
    {s : FVec Ideal S32x3968 .f32}
    (h : ∀ (k : Fin 32) (j : Fin 64), k0_pay17 p q r s (ix2 k (ln c j)) = (M (bin k j) : EReal)) :
    Inv c M g (k0_pay18 p q r s) (k0_pay19 p q r s) 0 := by
  refine ⟨fun i j => ?_, fun i j => ?_⟩
  · have e1 := h ⟨i, by omega⟩ j
    have e2 := h ⟨16 + i, by omega⟩ j
    pointwise [k0_pay18]
    simp only [e1, e2, Pick.left_zero]
  · have e1 := h ⟨i, by omega⟩ j
    have e2 := h ⟨16 + i, by omega⟩ j
    pointwise [k0_pay19]
    simp only [e1, e2, Pick.left_zero]

/-- A selection is a choice by its bit. -/
theorem select_eq {A : Type} (b : BitVec 1) (x y : A) : Scalar.select b x y = if b = 1#1 then x else y := by
  unfold Scalar.select
  rfl

/-- The weight of frequency `f` in the inverse transform. -/
def wgt (f : ℕ) : ℝ := (if f = 0 then 1 else 2) / 4096

section
variable {p r s : FVec Ideal S16x8192 .f32} {q : IVec S16x8192 1} {v23 : FVec Ideal S1x128 .f32}
  {v84 v87 v90 : FVec Ideal S32x8192 .f32}
  {x1 x2 : Vec Ideal S80x64 .bf16} {x3 x4 : Vec Ideal S40x8192 .f32}
  {x5 x6 : Vec Ideal S128x64 .bf16} {x7 : Vec Ideal S32x8192 .f32} {x8 : Vec Ideal S1x8192 .f32}
  {x9 : Vec Ideal S128x32 .f32} {x10 x11 : Vec Ideal S64x8192 .f32} {x12 x13 : Vec Ideal S64x64 .bf16}
  (T : Tables x1 x2 x3 x4 x5 x6 x7 x8 x9 x10 x11 x12 x13) (c : Fin 128)
  {M R I : ℕ → ℝ} {a b N : ℝ}
  (h78 : ∀ j, k0_pay78 r (ix2 0 (ln c j)) = (a : EReal)) (h79 : ∀ j, k0_pay79 p q r s (ix2 0 (ln c j)) = (b : EReal))
  (hN : v23 (ix2 0 c) = (N : EReal))
  (hM : ∀ (k : Fin 32) (j : Fin 64), v90 (ix2 k (ln c j)) = (M (bin k j) : EReal))
  (hR : ∀ (k : Fin 32) (j : Fin 64), v84 (ix2 k (ln c j)) = (R (bin k j) : EReal))
  (hI : ∀ (k : Fin 32) (j : Fin 64), v87 (ix2 k (ln c j)) = (I (bin k j) : EReal))

/-- The weight of a frequency that the comparison keeps, and nothing for the others. -/
def coef (M : ℕ → ℝ) (a b N : ℝ) (f : ℕ) : ℝ := if (if b < N * N then a else b) ≤ M f then wgt f else 0

include h79 hN in
/-- Whether bin 2048 is kept. -/
theorem keepn_at (j : Fin 64) : (k0_pay80 v23 p q r s (ix2 0 (ln c j)) = 1#1) = (b < N * N) := by
  have e := h79 j
  pointwise [k0_pay80]
  have ec : ((j : ℕ) * 128 + c) % 128 = c := by omega
  simp only [ec, e, hN, ← EReal.coe_mul, EReal.coe_lt_coe_iff]
  by_cases h : b < N * N <;> simp [h]

include T h78 h79 hN hM in
/-- A coefficient: the weight where the comparison keeps the frequency, zero elsewhere. -/
theorem coef_at (k : Fin 32) (j : Fin 64) :
    k0_pay81 v23 v90 p q r s x7 (ix2 k (ln c j)) = ((coef M a b N (bin k j) : ℝ) : EReal) := by
  have e1 := h78 j
  have e2 := h79 j
  have e3 := hM k j
  have e4 := keepn_at c h79 hN j
  have e5 := T.w c k j
  pointwise [k0_pay81]
  simp only [select_eq, e1, e2, e3, e4, e5, ← apply_ite (fun x : ℝ => (x : EReal)), EReal.coe_le_coe_iff, ← EReal.coe_zero]
  rfl

/-- A frequency's kept part. -/
def kept (M : ℕ → ℝ) (a b N : ℝ) (R : ℕ → ℝ) (k : Fin 32) (j : Fin 64) : ℝ := R (bin k j) * coef M a b N (bin k j)

include T h78 h79 hN hM hR in
/-- The first inverse stage of the real parts, at a row whose table row is the real row `h`. -/
theorem pay82_at (t : Fin 128) (j : Fin 64) (h : Fin 32 → ℝ) (h9 : ∀ k, x9 (ix2 t k) = (h k : EReal)) :
    k0_pay82 v23 v84 v90 p q r s x7 x9 (ix2 t (ln c j))
      = ((∑ k, h k * kept M a b N R k j : ℝ) : EReal) := by
  have e := fun k => coef_at T c h78 h79 hN hM k j
  pointwise [k0_pay82]
  simp only [e, h9, hR, coe_sum, EReal.coe_mul, kept]

/-- The imaginary part goes through the first inverse stage as the real part does. -/
theorem pay83_eq (v : FVec Ideal S32x8192 .f32) :
    k0_pay83 v23 v v90 p q r s x7 x9 = k0_pay82 v23 v v90 p q r s x7 x9 := rfl

include T h78 h79 hN hM hR hI in
/-- The first inverse stage, real part. -/
theorem zre_at (t j : Fin 64) :
    k0_pay84 v23 v84 v87 v90 p q r s x7 x9 x9 (ix2 t (ln c j))
      = ((zre (kept M a b N R) (kept M a b N I) t j : ℝ) : EReal) := by
  have e1 := pay82_at T c h78 h79 hN hM hR ⟨t, by omega⟩ j _ (T.lac t)
  have e2 := pay82_at T c h78 h79 hN hM hI ⟨64 + t, by omega⟩ j _ (T.las t)
  pointwise [k0_pay84, pay83_eq]
  simp only [e1, e2, zre, EReal.coe_sub]

include T h78 h79 hN hM hR hI in
/-- The first inverse stage, imaginary part. -/
theorem zim_at (t j : Fin 64) :
    k0_pay85 v23 v84 v87 v90 p q r s x7 x9 x9 (ix2 t (ln c j))
      = ((zim (kept M a b N R) (kept M a b N I) t j : ℝ) : EReal) := by
  have e1 := pay82_at T c h78 h79 hN hM hI ⟨t, by omega⟩ j _ (T.lac t)
  have e2 := pay82_at T c h78 h79 hN hM hR ⟨64 + t, by omega⟩ j _ (T.las t)
  pointwise [k0_pay85, pay83_eq]
  simp only [e1, e2, zim, EReal.coe_add]

/-- The filtered signal, as the kernel computes it. -/
def filtered (X : Fin 64 → Fin 64 → ℝ) (M : ℕ → ℝ) (a b N : ℝ) (R I : ℕ → ℝ) (m n : Fin 64) : ℝ :=
  X m n - (xf (kept M a b N R) (kept M a b N I) m n + sgn n * (if b < N * N then N * (1 / 4096) else 0))

include T hN in
/-- The last stage. -/
theorem pay86_at {v1 : FVec Ideal S64x8192 .f32} {v354 : IVec S1x8192 1} {v372 v375 : FVec Ideal S64x8192 .f32}
    {X : Fin 64 → Fin 64 → ℝ} {sre sim : Fin 32 → Fin 64 → ℝ} {K : Prop} [Decidable K]
    (h1 : ∀ m n, v1 (ix2 m (ln c n)) = (X m n : EReal))
    (h354 : (v354 (ix2 0 ⟨c, by omega⟩) = 1#1) = K)
    (hz : ∀ t j, v372 (ix2 t (ln c j)) = (zre sre sim t j : EReal))
    (hw : ∀ t j, v375 (ix2 t (ln c j)) = (zim sre sim t j : EReal)) (m n : Fin 64) :
    k0_pay86 v1 v23 v354 v372 v375 x10 x11 x10 x11 x12 x13 x8 (ix2 m (ln c n))
      = ((X m n - (xf sre sim m n + sgn n * (if K then N * (1 / 4096) else 0)) : ℝ) : EReal) := by
  have e1 := T.uc c
  have e2 := T.us c
  have e3 := T.fc m
  have e4 := T.fs m
  have e5 := T.sg c n
  have e6 := h1 m n
  pointwise [k0_pay86]
  have ec : ((n : ℕ) * 128 + c) % 128 = c := by omega
  have en : ((n : ℕ) * 128 + c) / 128 = n := by omega
  simp only [ec, en, Fin.eta, e1, e2, e3, e4, e5, e6, hz, hw, hN, select_eq, h354, inv_4096_bits, xf, zpre, zpim, mul_ite,
    mul_zero, EReal.coe_sub, EReal.coe_add, EReal.coe_mul, coe_sum, apply_ite (fun x : ℝ => (x : EReal)), EReal.coe_zero]

end

end Cert.Body

end
-- ==== Proof.Body.lean ====
/- The kernel's body at one channel, its stages put together: the block it stores. -/
module

public import proofs.«01_k».proof.Proof.Inverse
public import proofs.«01_k».proof.Proof.Gen.KernelIdeal.Frame
public import Idealize.ShloMosaic.Lib.Pipeline.ValueKit

@[expose] public section

set_option maxRecDepth 16384

noncomputable section

namespace Cert.Body

open Idealize.ShloMosaic Cert.KernelIdeal Cert.KernelIdeal.Gen Cert.Wave

/-- The squared magnitude of frequency `f`. -/
def mag (X : Fin 64 → Fin 64 → ℝ) (f : ℕ) : ℝ := re X f * re X f + im X f * im X f

/-- A squared magnitude is not negative. -/
theorem mag_nonneg (X : Fin 64 → Fin 64 → ℝ) (f : ℕ) : 0 ≤ mag X f :=
  add_nonneg (mul_self_nonneg _) (mul_self_nonneg _)

section
variable {x0 : Vec Ideal S1x64x8192 .f32} {x1 x2 : Vec Ideal S80x64 .bf16} {x3 x4 : Vec Ideal S40x8192 .f32}
  {x5 x6 : Vec Ideal S128x64 .bf16} {x7 : Vec Ideal S32x8192 .f32} {x8 : Vec Ideal S1x8192 .f32}
  {x9 : Vec Ideal S128x32 .f32} {x10 x11 : Vec Ideal S64x8192 .f32} {x12 x13 : Vec Ideal S64x64 .bf16}

/-- The block the body stores, from the four pieces of the spectrum: the part after the forward transform. -/
theorem back_at (T : Tables x1 x2 x3 x4 x5 x6 x7 x8 x9 x10 x11 x12 x13) (c : Fin 128) {X : Fin 64 → Fin 64 → ℝ}
    {g : ℕ → ℕ} (hg : Pick.Main (mag X) g) {v1 : FVec Ideal S64x8192 .f32} {v23 : FVec Ideal S1x128 .f32}
    {p q : FVec Ideal S32x5120 .f32} {r : FVec Ideal S32x4224 .f32} {s : FVec Ideal S32x3968 .f32}
    (h1 : ∀ m n, v1 (ix2 m (ln c n)) = (X m n : EReal)) (hN : v23 (ix2 0 c) = (nyq X : EReal))
    (hR : ∀ (k : Fin 32) (j : Fin 64), k0_pay15 r s (ix2 k (ln c j)) = (re X (bin k j) : EReal))
    (hI : ∀ (k : Fin 32) (j : Fin 64), k0_pay16 p q (ix2 k (ln c j)) = (im X (bin k j) : EReal))
    {a1 a3 a4 a5 a6 a7 a8 a10 a11 a12 : FVec Ideal S16x8192 .f32} {a2 a9 : IVec S16x8192 1}
    {t1 : FVec Ideal S16x8192 .f32} {t2 : FVec Ideal S1x128 .f32} {t3 : FVec Ideal S1x8192 .f32}
    (e1 : a1 = k0_pay25 p q r s) (e2 : a2 = k0_pay26 p q r s) (e3 : a3 = k0_pay27 p q r s)
    (e4 : a4 = k0_pay37 a1 a2 a3 k0_pay28) (e5 : a5 = k0_pay38 a1 a2 a3 k0_pay28) (f1 : t1 = k0_pay39 a1 a2 a3 k0_pay28)
    (e6 : a6 = k0_pay50 a4 a5 t1) (e7 : a7 = k0_pay51 a4 a5 t1) (f2 : t2 = k0_pay52 a4 a5 t1)
    (e8 : a8 = k0_pay63 a6 a7 t2) (e10 : a10 = k0_pay64 a6 a7 t2) (f3 : t3 = k0_pay65 a6 a7 t2)
    (e11 : a11 = k0_pay74 a8 a10 t3) (e9 : a9 = k0_pay75 a8 a10 t3) (e12 : a12 = k0_pay76 a8 a10 t3)
    (m n : Fin 64) :
    k0_pay86 v1 v23 (k0_pay80 v23 a11 a9 a12 k0_pay77)
        (k0_pay84 v23 (k0_pay15 r s) (k0_pay16 p q) (k0_pay17 p q r s) a11 a9 a12 k0_pay77 x7 x9 x9)
        (k0_pay85 v23 (k0_pay15 r s) (k0_pay16 p q) (k0_pay17 p q r s) a11 a9 a12 k0_pay77 x7 x9 x9)
        x10 x11 x10 x11 x12 x13 x8 (ix2 m (ln c n))
      = ((filtered X (mag X) (mag X (g 18)) (mag X (g 19)) (nyq X) (re X) (im X) m n : ℝ) : EReal) := by
  have hM : ∀ (k : Fin 32) (j : Fin 64), k0_pay17 p q r s (ix2 k (ln c j)) = (mag X (bin k j) : EReal) := by
    intro k j
    have g1 := hR k j
    have g2 := hI k j
    pointwise [k0_pay17]
    rw [g1, g2, mag, EReal.coe_add, EReal.coe_mul, EReal.coe_mul]
  have h0 := mag_nonneg X
  have i3 := rounds_3 hg h0 (inv_start hM)
  rw [← e1, ← e2, ← e3] at i3
  have i6 := rounds_6 hg h0 i3
  have b6 := hit_39 hg h0 a1 a3 k0_pay28 a2
  rw [← e4, ← e5] at i6
  rw [← e4, ← f1] at b6
  have i10 := rounds_10 hg h0 i6 b6
  have b10 : k0_pay53 a6 t2 = hit a6 := by rw [e6, f2]; rfl
  rw [← e6, ← e7] at i10
  have i14 := rounds_14 hg h0 i10 b10
  have b14 : k0_pay66 a8 t3 = hit a8 := by rw [e8, f3]; rfl
  rw [← e8, ← e10] at i14
  have i18 := rounds_18 hg h0 i14 b14
  rw [← e11, ← e9, ← e12] at i18
  have s19 := s19_at hg h0 i18
  have s20 := s20_at hg h0 i18
  have h354 := keepn_at c s20 hN 0
  rw [show ln c 0 = ⟨c, by omega⟩ from Fin.ext (by simp [ln])] at h354
  exact pay86_at T c hN h1 h354 (zre_at T c s19 s20 hN hM hR hI) (zim_at T c s19 s20 hN hM hR hI) m n

/-- The block the body stores, at a channel whose signal is real and whose magnitudes have a strict order at the top. -/
theorem out_at (T : Tables x1 x2 x3 x4 x5 x6 x7 x8 x9 x10 x11 x12 x13) (c : Fin 128) {X : Fin 64 → Fin 64 → ℝ}
    (hx : ∀ a n, x0 (ix3 0 a (ln c n)) = (X a n : EReal)) {g : ℕ → ℕ} (hg : Pick.Main (mag X) g) (m n : Fin 64) :
    out0_14 x0 x1 x2 x3 x4 x5 x6 x7 x8 x9 x10 x11 x12 x13 (ix3 0 m (ln c n))
      = ((filtered X (mag X) (mag X (g 18)) (mag X (g 19)) (nyq X) (re X) (im X) m n : ℝ) : EReal) := by
  have hN := nyq_at T c hx
  have hp := ypre_at T c hx
  have hq := ypim_at T c hx
  have hR := fun k j => (xre_at T c hp hq k j).trans (congrArg _ (xre_eq X k j j.isLt))
  have hI := fun k j => (xim_at T c hp hq k j).trans (congrArg _ (xim_eq X k j j.isLt))
  have h1 : ∀ m n, k0_pay2 x0 (ix2 m (ln c n)) = (X m n : EReal) := by
    intro m n
    pointwise [k0_pay2]
    exact hx m n
  have key := back_at T c hg h1 hN hR hI rfl rfl rfl rfl rfl rfl rfl rfl rfl rfl rfl rfl rfl rfl rfl m n
  unfold_out out0_14
  frame_out
  rw [← key]
  pointwise [k0_pay1]

end

end Cert.Body

end
-- ==== Proof.Tables.lean ====
/- The entries of the tables of cosines, sines, weights and signs that the host computes for the kernel. -/
module
public import proofs.«01_k».proof.Proof.Gen.KernelIdeal.Frame
public import proofs.«01_k».proof.Proof.Inverse
public import Idealize.ShloMosaic.Lib.Pointwise
public import Idealize.ShloMosaic.Lib.StableHlo.ReadAt
public import Idealize.ShloMosaic.Lib.Tactic.CleanTypes
public import Idealize.ShloMosaic.Lib.Pipeline.ValueKit
@[expose] public section
set_option maxRecDepth 16384
noncomputable section
namespace Cert.Tab
open Idealize.ShloMosaic Cert.KernelIdeal Cert.KernelIdeal.Gen Cert.Wave Cert.Body Idealize.SL.Sem

/-- The word of -1. -/
theorem neg_one_bits : Ideal.ofBits FTy.f32 3212836864#32 = ((-1 : ℝ) : EReal) := by
  simp [Ideal.ofBits, Ideal.ieee, -EReal.coe_mul]; norm_num
/-- The word of 2/64. -/
theorem step64_bits : Ideal.ofBits FTy.f32 1023410176#32 = ((2 / 64 : ℝ) : EReal) := by
  simp [Ideal.ofBits, Ideal.ieee, -EReal.coe_mul]; norm_num
/-- The word of 2/4096. -/
theorem step4096_bits : Ideal.ofBits FTy.f32 973078528#32 = ((2 / 4096 : ℝ) : EReal) := by
  simp [Ideal.ofBits, Ideal.ieee, -EReal.coe_mul]; norm_num
/-- The word of 2. -/
theorem two_bits : Ideal.ofBits FTy.f32 1073741824#32 = ((2 : ℝ) : EReal) := by
  simp [Ideal.ofBits, Ideal.ieee, -EReal.coe_mul]; norm_num
/-- The word of 4096. -/
theorem size_bits : Ideal.ofBits FTy.f32 1166016512#32 = ((4096 : ℝ) : EReal) := by
  simp [Ideal.ofBits, Ideal.ieee, -EReal.coe_mul]; norm_num

/-- A product of two small counts, as a float. -/
theorem count (p q : ℕ) (h : p * q < 2 ^ 31) :
    FloatOps.sitofp (F := Ideal) FTy.f32 (IntOp.muli (BitVec.ofNat 32 p) (BitVec.ofNat 32 q)) = (((p * q : ℕ) : ℝ) : EReal) := by
  have e : IntOp.muli (BitVec.ofNat 32 p) (BitVec.ofNat 32 q) = BitVec.ofNat 32 (p * q) := by
    simp [IntOp.muli, BitVec.ofNat_mul]
  have e2 : (BitVec.ofNat 32 (p * q)).toInt = ((p * q : ℕ) : ℤ) := by
    rw [BitVec.toInt_ofNat']
    simp only [Int.bmod]
    omega
  rw [e]
  show (((BitVec.ofNat 32 (p * q)).toInt : ℝ) : EReal) = _
  rw [e2]; norm_cast

/-- The arc cosine of -1 is π. -/
theorem acos_neg : Ideal.acos (Ideal.ofBits FTy.f32 3212836864#32) = ((Real.pi : ℝ) : EReal) := by
  rw [neg_one_bits]
  have e : Ideal.acos ((-1 : ℝ) : EReal)
      = if (-1 : ℝ) ≤ -1 ∧ (-1 : ℝ) ≤ 1 then ((Real.arccos (-1) : ℝ) : EReal) else ⊥ := rfl
  rw [e, if_pos (by norm_num), Real.arccos_neg_one]

/-- A table's angle, in 64ths of a turn. -/
theorem ang64 (p q : ℕ) (hp : p < 128) (hq : q < 128) :
    FloatOps.sitofp (F := Ideal) FTy.f32 (IntOp.muli (BitVec.ofNat 32 p) (BitVec.ofNat 32 q))
      * (Ideal.acos (Ideal.ofBits FTy.f32 3212836864#32) * Ideal.ofBits FTy.f32 1023410176#32)
      = ((ang (p * q) 64 : ℝ) : EReal) := by
  rw [count p q ((Nat.mul_lt_mul'' hp hq).trans (by norm_num)), acos_neg, step64_bits, ← EReal.coe_mul, ← EReal.coe_mul, ang]; norm_num

/-- A table's angle, in 4096ths of a turn. -/
theorem ang4096 (p q : ℕ) (hp : p < 128) (hq : q < 128) :
    FloatOps.sitofp (F := Ideal) FTy.f32 (IntOp.muli (BitVec.ofNat 32 p) (BitVec.ofNat 32 q))
      * (Ideal.acos (Ideal.ofBits FTy.f32 3212836864#32) * Ideal.ofBits FTy.f32 973078528#32)
      = ((ang (p * q) 4096 : ℝ) : EReal) := by
  rw [count p q ((Nat.mul_lt_mul'' hp hq).trans (by norm_num)), acos_neg, step4096_bits, ← EReal.coe_mul, ← EReal.coe_mul, ang]; norm_num

/-- The first 33 rows are the ones held. -/
theorem below_33 : ∀ f : Fin 33, IntOp.cmpi .slt (BitVec.ofNat 32 (f : ℕ)) 33#32 = 1#1 := by decide

/-- The order of the columns, on words. -/
theorem perm_word : ∀ j : Fin 64, Scalar.select (IntOp.cmpi .sle (BitVec.ofNat 32 (j : ℕ)) 32#32) (BitVec.ofNat 32 (j : ℕ))
    (IntOp.subi 96#32 (BitVec.ofNat 32 (j : ℕ))) = BitVec.ofNat 32 (perm j) := by decide
/-- The test for frequency 0. -/
theorem zero_bin : ∀ (k : Fin 32) (j : Fin 64), IntOp.cmpi .eq (IntOp.addi (IntOp.muli 64#32 (BitVec.ofNat 32 (k : ℕ)))
    (BitVec.ofNat 32 (perm j))) 0#32 = BitVec.ofBool (decide (bin k j = 0)) := by decide +kernel
/-- A quotient of reals, by one that is not zero. -/
theorem div_real (a b : ℝ) (h : b ≠ 0) : Ideal.div (a : EReal) b = ((a / b : ℝ) : EReal) := by
  rw [Ideal.div, if_neg (by exact_mod_cast h), div_eq_mul_inv, EReal.coe_mul, EReal.coe_inv]
/-- The host's remainder by two. -/
theorem parity (n : Fin 64) :
    FloatOps.sitofp (F := Ideal) FTy.f32 (Scalar.select (IntOp.andi (IntOp.cmpi .ne (IntOp.cmpi .slt (IntOp.remsi ArithUnit.host (BitVec.ofNat 32 (n : ℕ)) (Scalar.select (IntOp.cmpi .eq 2#32 0#32) 1#32 2#32)) 0#32)
      (IntOp.cmpi .slt (Scalar.select (IntOp.cmpi .eq 2#32 0#32) 1#32 2#32) 0#32)) (IntOp.cmpi .ne (IntOp.remsi ArithUnit.host (BitVec.ofNat 32 (n : ℕ)) (Scalar.select (IntOp.cmpi .eq 2#32 0#32) 1#32 2#32)) 0#32))
      (IntOp.addi (IntOp.remsi ArithUnit.host (BitVec.ofNat 32 (n : ℕ)) (Scalar.select (IntOp.cmpi .eq 2#32 0#32) 1#32 2#32)) (Scalar.select (IntOp.cmpi .eq 2#32 0#32) 1#32 2#32)) (IntOp.remsi ArithUnit.host (BitVec.ofNat 32 (n : ℕ)) (Scalar.select (IntOp.cmpi .eq 2#32 0#32) 1#32 2#32)))
      = (((n : ℕ) % 2 : ℕ) : ℝ) := by
  have h : ∀ n : Fin 64, (Scalar.select (IntOp.andi (IntOp.cmpi .ne (IntOp.cmpi .slt (IntOp.remsi ArithUnit.host (BitVec.ofNat 32 (n : ℕ)) (Scalar.select (IntOp.cmpi .eq 2#32 0#32) 1#32 2#32)) 0#32)
      (IntOp.cmpi .slt (Scalar.select (IntOp.cmpi .eq 2#32 0#32) 1#32 2#32) 0#32)) (IntOp.cmpi .ne (IntOp.remsi ArithUnit.host (BitVec.ofNat 32 (n : ℕ)) (Scalar.select (IntOp.cmpi .eq 2#32 0#32) 1#32 2#32)) 0#32))
      (IntOp.addi (IntOp.remsi ArithUnit.host (BitVec.ofNat 32 (n : ℕ)) (Scalar.select (IntOp.cmpi .eq 2#32 0#32) 1#32 2#32)) (Scalar.select (IntOp.cmpi .eq 2#32 0#32) 1#32 2#32)) (IntOp.remsi ArithUnit.host (BitVec.ofNat 32 (n : ℕ)) (Scalar.select (IntOp.cmpi .eq 2#32 0#32) 1#32 2#32))) = BitVec.ofNat 32 ((n : ℕ) % 2) := by
    decide +kernel
  rw [h]
  have e := count (n % 2) 1 (by omega)
  rwa [mul_one, show IntOp.muli (BitVec.ofNat 32 (n % 2)) (BitVec.ofNat 32 1) = BitVec.ofNat 32 (n % 2) by simp [IntOp.muli]] at e
/-- The next count, on words. -/
theorem succ_word (k : ℕ) : IntOp.addi (BitVec.ofNat 32 k) 1#32 = BitVec.ofNat 32 (k + 1) := by
  simp [IntOp.addi, BitVec.ofNat_add]
/-- A real less itself is zero. -/
theorem sub_self_real {x : EReal} (h : ∃ r : ℝ, x = r) : x - x = 0 := by
  obtain ⟨r, rfl⟩ := h; rw [← EReal.coe_sub, sub_self]; rfl
/-- A selection by the bit 1. -/
theorem select_one {α : Type} (x y : α) : Scalar.select 1#1 x y = x := rfl

/-- The cosine of a real. -/
theorem cos_real (r : ℝ) : Ideal.cos (r : EReal) = ((Real.cos r : ℝ) : EReal) := rfl

/-- The sine of a real. -/
theorem sin_real (r : ℝ) : Ideal.sin (r : EReal) = ((Real.sin r : ℝ) : EReal) := rfl

variable (m : (ℓ : Loc nD τ sig) → Buf (Elt Ideal) ℓ) (c : Dev nD)

/-- The first table's cosine rows. -/
theorem l1c (f : Fin 33) (a : Fin 64) : (V m c main_call0_v21 : Vec Ideal S80x64 .bf16) (ix2 ⟨f, by omega⟩ a)
    = ((Real.cos (ang (f * a) 64) : ℝ) : EReal) := by
  entry_read
  simp -implicitDefEqProofs only [StableHlo.TRef.toBuf, StableHlo.TRef.ofBuf, cast_cast, cast_eq]
  clean_types
  pointwise
  rw [dif_pos (by omega), below_33, select_one, ang64 _ _ (by omega) (by omega), cos_real]

/-- The first table's sine rows. -/
theorem l1s (f : Fin 33) (a : Fin 64) : (V m c main_call0_v21 : Vec Ideal S80x64 .bf16) (ix2 ⟨40 + f, by omega⟩ a)
    = ((-Real.sin (ang (f * a) 64) : ℝ) : EReal) := by
  entry_read
  simp -implicitDefEqProofs only [StableHlo.TRef.toBuf, StableHlo.TRef.ofBuf, cast_cast, cast_eq]
  clean_types
  pointwise
  rw [below_33, select_one, ang64 _ _ (by omega) (by omega), sin_real, EReal.coe_neg]

/-- The first table's low half vanishes. -/
theorem l1l (r : Fin 80) (a : Fin 64) : (V m c main_call0_v24 : Vec Ideal S80x64 .bf16) (ix2 r a) = (0 : EReal) := by
  entry_read
  simp -implicitDefEqProofs only [StableHlo.TRef.toBuf, StableHlo.TRef.ofBuf, cast_cast, cast_eq]
  clean_types
  pointwise
  refine sub_self_real ?_
  split
  · rw [ang64 _ _ (by omega) (by omega), cos_real, select_eq]
    split
    · exact ⟨_, rfl⟩
    · exact ⟨0, rfl⟩
  · rw [ang64 _ _ (by omega) (by omega), sin_real, ← EReal.coe_neg, select_eq]
    split
    · exact ⟨_, rfl⟩
    · exact ⟨0, rfl⟩

/-- The first twiddle's cosines. -/
theorem tc (l : Fin 128) (f : Fin 33) (n : Fin 64) : (V m c main_call0_v41 : Vec Ideal S40x8192 .f32) (ix2 ⟨f, by omega⟩ (ln l n))
    = ((Real.cos (ang (f * n) 4096) : ℝ) : EReal) := by
  entry_read
  simp -implicitDefEqProofs only [StableHlo.TRef.toBuf, StableHlo.TRef.ofBuf, cast_cast, cast_eq]
  clean_types
  pointwise
  have e : ((n : ℕ) * 128 + l) / 128 = n := by omega
  rw [e, below_33, select_one, ang4096 _ _ (by omega) (by omega), cos_real]

/-- The first twiddle's sines. -/
theorem ts (l : Fin 128) (f : Fin 33) (n : Fin 64) : (V m c main_call0_v43 : Vec Ideal S40x8192 .f32) (ix2 ⟨f, by omega⟩ (ln l n))
    = ((-Real.sin (ang (f * n) 4096) : ℝ) : EReal) := by
  entry_read
  simp -implicitDefEqProofs only [StableHlo.TRef.toBuf, StableHlo.TRef.ofBuf, cast_cast, cast_eq]
  clean_types
  pointwise
  have e : ((n : ℕ) * 128 + l) / 128 = n := by omega
  rw [e, below_33, select_one, ang4096 _ _ (by omega) (by omega), sin_real, EReal.coe_neg]

/-- The second table's cosine rows. -/
theorem l2c (k : Fin 32) (b : Fin 64) : (V m c main_call0_v74 : Vec Ideal S128x64 .bf16) (ix2 ⟨k, by omega⟩ b)
    = ((Real.cos (ang (k * b) 64) : ℝ) : EReal) := by
  after_reads_at
  change (StableHlo.upto hostOps0 (fun b => m (c, b)) 99 (Proc.tc.devRef main_call0_v67) : Vec Ideal S32x64 .f32) (ix2 k b) = _
  after_reads_simp
  simp -implicitDefEqProofs only [StableHlo.TRef.toBuf, StableHlo.TRef.ofBuf, cast_cast, cast_eq]
  clean_types
  pointwise
  rw [ang64 _ _ (by omega) (by omega), cos_real]

/-- The second table's sine rows. -/
theorem l2s (k : Fin 32) (b : Fin 64) : (V m c main_call0_v74 : Vec Ideal S128x64 .bf16) (ix2 ⟨32 + k, by omega⟩ b)
    = ((-Real.sin (ang (k * b) 64) : ℝ) : EReal) := by
  after_reads_at
  change (StableHlo.upto hostOps0 (fun b => m (c, b)) 99 (Proc.tc.devRef main_call0_v69) : Vec Ideal S32x64 .f32) (ix2 k b) = _
  after_reads_simp
  simp -implicitDefEqProofs only [StableHlo.TRef.toBuf, StableHlo.TRef.ofBuf, cast_cast, cast_eq]
  clean_types
  pointwise
  rw [ang64 _ _ (by omega) (by omega), sin_real, EReal.coe_neg]

/-- The second table's mirrored cosine rows. -/
theorem l2cm (k : Fin 32) (b : Fin 64) : (V m c main_call0_v74 : Vec Ideal S128x64 .bf16) (ix2 ⟨64 + k, by omega⟩ b)
    = ((Real.cos (ang ((k + 1) * b) 64) : ℝ) : EReal) := by
  after_reads_at
  refine (dif_neg (by omega)).trans ((dif_neg (by omega)).trans ((dif_pos (by omega)).trans ?_))
  change (StableHlo.upto hostOps0 (fun b => m (c, b)) 99 (Proc.tc.devRef main_call0_v70) : Vec Ideal S32x64 .f32) (ix2 ⟨64 + (k : ℕ) - 32 - 32, by omega⟩ b) = _
  after_reads_simp
  simp -implicitDefEqProofs only [StableHlo.TRef.toBuf, StableHlo.TRef.ofBuf, cast_cast, cast_eq]
  clean_types
  pointwise
  rw [show 64 + (k : ℕ) - 32 - 32 = k by omega, succ_word, ang64 _ _ (by omega) (by omega), cos_real]

/-- The second table's mirrored sine rows. -/
theorem l2sm (k : Fin 32) (b : Fin 64) : (V m c main_call0_v74 : Vec Ideal S128x64 .bf16) (ix2 ⟨96 + k, by omega⟩ b)
    = ((-Real.sin (ang ((k + 1) * b) 64) : ℝ) : EReal) := by
  after_reads_at
  refine (dif_neg (by omega)).trans ((dif_neg (by omega)).trans ((dif_neg (by omega)).trans ?_))
  change (StableHlo.upto hostOps0 (fun b => m (c, b)) 99 (Proc.tc.devRef main_call0_v72) : Vec Ideal S32x64 .f32) (ix2 ⟨96 + (k : ℕ) - 32 - 32 - 32, by omega⟩ b) = _
  after_reads_simp
  simp -implicitDefEqProofs only [StableHlo.TRef.toBuf, StableHlo.TRef.ofBuf, cast_cast, cast_eq]
  clean_types
  pointwise
  rw [show 96 + (k : ℕ) - 32 - 32 - 32 = k by omega, succ_word, ang64 _ _ (by omega) (by omega), sin_real, EReal.coe_neg]

/-- Every entry of the second table is a real number. -/
theorem l2_real (r : Fin 128) (b : Fin 64) : ∃ y : ℝ, (V m c main_call0_v74 : Vec Ideal S128x64 .bf16) (ix2 r b) = (y : EReal) := by
  obtain ⟨r, hr⟩ := r
  by_cases h1 : r < 32
  · exact ⟨_, l2c m c ⟨r, h1⟩ b⟩
  by_cases h2 : r < 64
  · obtain ⟨k, rfl⟩ := Nat.exists_eq_add_of_le (show 32 ≤ r by omega)
    exact ⟨_, l2s m c ⟨k, by omega⟩ b⟩
  by_cases h3 : r < 96
  · obtain ⟨k, rfl⟩ := Nat.exists_eq_add_of_le (show 64 ≤ r by omega)
    exact ⟨_, l2cm m c ⟨k, by omega⟩ b⟩
  · obtain ⟨k, rfl⟩ := Nat.exists_eq_add_of_le (show 96 ≤ r by omega)
    exact ⟨_, l2sm m c ⟨k, by omega⟩ b⟩

/-- The second table's low half vanishes. -/
theorem l2l (r : Fin 128) (b : Fin 64) : (V m c main_call0_v77 : Vec Ideal S128x64 .bf16) (ix2 r b) = (0 : EReal) := by
  have h := sub_self_real (l2_real m c r b)
  revert h
  after_reads_at
  exact id

/-- The weights. -/
theorem wt (l : Fin 128) (k : Fin 32) (n : Fin 64) : (V m c main_call0_v96 : Vec Ideal S32x8192 .f32) (ix2 k (ln l n))
    = (((if bin k n = 0 then 1 else 2) / 4096 : ℝ) : EReal) := by
  entry_read
  simp -implicitDefEqProofs only [StableHlo.TRef.toBuf, StableHlo.TRef.ofBuf, cast_cast, cast_eq]
  clean_types
  pointwise
  have e : ((n : ℕ) * 128 + l) / 128 = n := by omega
  rw [e, perm_word, zero_bin, select_eq, two_bits, size_bits]
  by_cases hb : bin k n = 0
  · rw [if_pos (by simp [hb]), if_pos hb]
    exact div_real 1 4096 (by norm_num)
  · rw [if_neg (by simp [hb]), if_neg hb]
    exact div_real 2 4096 (by norm_num)

/-- The inverse table's cosine rows. -/
theorem lac (t : Fin 64) (k : Fin 32) : (V m c main_call0_v110 : Vec Ideal S128x32 .f32) (ix2 ⟨t, by omega⟩ k)
    = ((Real.cos (ang (k * t) 64) : ℝ) : EReal) := by
  entry_read
  simp -implicitDefEqProofs only [StableHlo.TRef.toBuf, StableHlo.TRef.ofBuf, cast_cast, cast_eq]
  clean_types
  pointwise
  rw [ang64 _ _ (by omega) (by omega), cos_real]

/-- The inverse table's sine rows. -/
theorem las (t : Fin 64) (k : Fin 32) : (V m c main_call0_v110 : Vec Ideal S128x32 .f32) (ix2 ⟨64 + t, by omega⟩ k)
    = ((Real.sin (ang (k * t) 64) : ℝ) : EReal) := by
  entry_read
  simp -implicitDefEqProofs only [StableHlo.TRef.toBuf, StableHlo.TRef.ofBuf, cast_cast, cast_eq]
  clean_types
  pointwise
  rw [ang64 _ _ (by omega) (by omega), sin_real]

/-- The second twiddle's cosines. -/
theorem uc (l : Fin 128) (t n : Fin 64) : (V m c main_call0_v123 : Vec Ideal S64x8192 .f32) (ix2 t (ln l n))
    = ((Real.cos (ang (t * perm n) 4096) : ℝ) : EReal) := by
  entry_read
  simp -implicitDefEqProofs only [StableHlo.TRef.toBuf, StableHlo.TRef.ofBuf, cast_cast, cast_eq]
  clean_types
  pointwise
  have e : ((n : ℕ) * 128 + l) / 128 = n := by omega
  rw [e, perm_word, ang4096 _ _ (by omega) ((perm_lt n).trans (by norm_num)), cos_real]

/-- The second twiddle's sines. -/
theorem us (l : Fin 128) (t n : Fin 64) : (V m c main_call0_v126 : Vec Ideal S64x8192 .f32) (ix2 t (ln l n))
    = ((Real.sin (ang (t * perm n) 4096) : ℝ) : EReal) := by
  entry_read
  simp -implicitDefEqProofs only [StableHlo.TRef.toBuf, StableHlo.TRef.ofBuf, cast_cast, cast_eq]
  clean_types
  pointwise
  have e : ((n : ℕ) * 128 + l) / 128 = n := by omega
  rw [e, perm_word, ang4096 _ _ (by omega) ((perm_lt n).trans (by norm_num)), sin_real]

/-- The last table's cosines. -/
theorem fc (k n : Fin 64) : (V m c main_call0_v138 : Vec Ideal S64x64 .bf16) (ix2 k n)
    = ((Real.cos (ang (k * perm n) 64) : ℝ) : EReal) := by
  entry_read
  simp -implicitDefEqProofs only [StableHlo.TRef.toBuf, StableHlo.TRef.ofBuf, cast_cast, cast_eq]
  clean_types
  pointwise
  rw [perm_word, ang64 _ _ (by omega) ((perm_lt n).trans (by norm_num)), cos_real]

/-- The last table's sines. -/
theorem fs (k n : Fin 64) : (V m c main_call0_v140 : Vec Ideal S64x64 .bf16) (ix2 k n)
    = ((Real.sin (ang (k * perm n) 64) : ℝ) : EReal) := by
  entry_read
  simp -implicitDefEqProofs only [StableHlo.TRef.toBuf, StableHlo.TRef.ofBuf, cast_cast, cast_eq]
  clean_types
  pointwise
  rw [perm_word, ang64 _ _ (by omega) ((perm_lt n).trans (by norm_num)), sin_real]

/-- The alternating signs. -/
theorem sg (l : Fin 128) (n : Fin 64) : (V m c main_call0_v105 : Vec Ideal S1x8192 .f32) (ix2 0 (ln l n))
    = ((sgn n : ℝ) : EReal) := by
  after_reads_at
  have e : ((n : ℕ) * 128 + l) / 128 = n := by omega
  rw [e, show id (constantI S_ 32 2#32) ix0 = 2#32 from rfl, parity, two_bits]
  rw [← EReal.coe_one, ← EReal.coe_mul, ← EReal.coe_sub]
  congr 1

end Cert.Tab
end
-- ==== Proof.Array.lean ====
/- The kernel's result array: at every signal whose magnitudes have a strict order at the top, the filtered signal. -/
module

public import proofs.«01_k».proof.Proof.Body
public import proofs.«01_k».proof.Proof.Tables

@[expose] public section

set_option maxRecDepth 16384

noncomputable section

namespace Cert.Body

open Idealize.ShloMosaic Cert.KernelIdeal Cert.KernelIdeal.Gen Cert.Wave Idealize.SL.Sem

variable (m : (ℓ : Loc nD τ sig) → Buf (Elt Ideal) ℓ) (c : Dev nD)

/-- Every window's place at a grid point: the signal's and the result's follow the batch, the tables stay. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0]
    ∧ win0_14.index t = ![t.val, 0, 0] :=
  (by decide +kernel : ∀ t : Fin grid0.N, _)

/-- The block of window 1 is its whole table, at every grid point. -/
theorem iblk1 (t : Fin cfg0.N) : iblk m c 1 t = V m c main_call0_v21 := by blk_ext! [iblk, idx t]

/-- The block of window 2 is its whole table, at every grid point. -/
theorem iblk2 (t : Fin cfg0.N) : iblk m c 2 t = V m c main_call0_v24 := by blk_ext! [iblk, idx t]

/-- The block of window 3 is its whole table, at every grid point. -/
theorem iblk3 (t : Fin cfg0.N) : iblk m c 3 t = V m c main_call0_v41 := by blk_ext! [iblk, idx t]

/-- The block of window 4 is its whole table, at every grid point. -/
theorem iblk4 (t : Fin cfg0.N) : iblk m c 4 t = V m c main_call0_v43 := by blk_ext! [iblk, idx t]

/-- The block of window 5 is its whole table, at every grid point. -/
theorem iblk5 (t : Fin cfg0.N) : iblk m c 5 t = V m c main_call0_v74 := by blk_ext! [iblk, idx t]

/-- The block of window 6 is its whole table, at every grid point. -/
theorem iblk6 (t : Fin cfg0.N) : iblk m c 6 t = V m c main_call0_v77 := by blk_ext! [iblk, idx t]

/-- The block of window 7 is its whole table, at every grid point. -/
theorem iblk7 (t : Fin cfg0.N) : iblk m c 7 t = V m c main_call0_v96 := by blk_ext! [iblk, idx t]

/-- The block of window 8 is its whole table, at every grid point. -/
theorem iblk8 (t : Fin cfg0.N) : iblk m c 8 t = V m c main_call0_v105 := by blk_ext! [iblk, idx t]

/-- The block of window 9 is its whole table, at every grid point. -/
theorem iblk9 (t : Fin cfg0.N) : iblk m c 9 t = V m c main_call0_v110 := by blk_ext! [iblk, idx t]

/-- The block of window 10 is its whole table, at every grid point. -/
theorem iblk10 (t : Fin cfg0.N) : iblk m c 10 t = V m c main_call0_v123 := by blk_ext! [iblk, idx t]

/-- The block of window 11 is its whole table, at every grid point. -/
theorem iblk11 (t : Fin cfg0.N) : iblk m c 11 t = V m c main_call0_v126 := by blk_ext! [iblk, idx t]

/-- The block of window 12 is its whole table, at every grid point. -/
theorem iblk12 (t : Fin cfg0.N) : iblk m c 12 t = V m c main_call0_v138 := by blk_ext! [iblk, idx t]

/-- The block of window 13 is its whole table, at every grid point. -/
theorem iblk13 (t : Fin cfg0.N) : iblk m c 13 t = V m c main_call0_v140 := by blk_ext! [iblk, idx t]

/-- The tables the body reads are the tables of the transform. -/
theorem tables (t : Fin cfg0.N) : Tables (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) := by
  rw [iblk1, iblk2, iblk3, iblk4, iblk5, iblk6, iblk7, iblk8, iblk9, iblk10, iblk11, iblk12, iblk13]
  exact ⟨Tab.l1c m c, Tab.l1s m c, Tab.l1l m c, Tab.tc m c, Tab.ts m c, Tab.l2c m c, Tab.l2s m c, Tab.l2cm m c,
    Tab.l2sm m c, Tab.l2l m c, Tab.wt m c, Tab.sg m c, Tab.lac m c, Tab.las m c, Tab.uc m c, Tab.us m c, Tab.fc m c,
    Tab.fs m c⟩

/-- The signal's block at a grid point: entry `(a, n)` of channel `l` is time step `64 a + n`. -/
theorem iblk0_at (t : Fin cfg0.N) (b : Fin 32) (hb : t.val = b.val) (a n : Fin 64) (l : Fin 128) :
    (iblk m c 0 t : Vec Ideal S1x64x8192 .f32) (ix3 0 a (ln l n))
      = (m ((c.tc : Thread nD τ).loc main_arg0) : Vec Ideal S32x4096x128 .f32) (ix3 b ⟨64 * a + n, by omega⟩ l) := by
  have e : (iblk m c 0 t : Vec Ideal S1x64x8192 .f32) (ix3 0 a (ln l n))
      = (V m c main_call0_v141 : Vec Ideal S32x64x8192 .f32) (ix3 b a (ln l n)) := by
    blk_ext [iblk, idx t]
  rw [e]
  entry_read
  simp -implicitDefEqProofs only [StableHlo.TRef.toBuf, StableHlo.TRef.ofBuf, cast_cast, cast_eq]
  clean_types
  pointwise
  have e1 : (a : ℕ) * 64 + ((n : ℕ) * 128 + l) / 128 = 64 * a + n := by omega
  have e2 : ((n : ℕ) * 128 + l) % 128 = l := by omega
  simp only [e1, e2, Fin.eta]

/-- Every index of a block is a row, a column and a channel. -/
theorem exists_ln (y : S1x64x8192.Idx) : ∃ (a n : Fin 64) (l : Fin 128), y = ix3 0 a (ln l n) := by
  have h2 : (y 2).val < 8192 := (y 2).isLt
  refine ⟨y 1, ⟨(y 2).val / 128, by omega⟩, ⟨(y 2).val % 128, by omega⟩, ?_⟩
  funext x
  apply Fin.ext
  match x with
  | 0 => have h0 : (y 0).val < 1 := (y 0).isLt
         show (y 0).val = 0
         omega
  | 1 => rfl
  | 2 => show (y 2).val = (y 2).val / 128 * 128 + (y 2).val % 128
         omega

/-- The kernel's result array. -/
theorem final (X : Fin 32 → Fin 128 → Fin 64 → Fin 64 → ℝ) (g : Fin 32 → Fin 128 → ℕ → ℕ)
    (hx : ∀ (b : Fin 32) (l : Fin 128) (a n : Fin 64),
      (m ((c.tc : Thread nD τ).loc main_arg0) : Vec Ideal S32x4096x128 .f32) (ix3 b ⟨64 * a + n, by omega⟩ l) = (X b l a n : EReal))
    (hg : ∀ b l, Pick.Main (mag (X b l)) (g b l))
    (R : Vec Ideal S32x64x8192 .f32)
    (hR : ∀ (b : Fin 32) (l : Fin 128) (a n : Fin 64), R (ix3 b a (ln l n))
      = ((filtered (X b l) (mag (X b l)) (mag (X b l) (g b l 18)) (mag (X b l) (g b l 19)) (nyq (X b l)) (re (X b l)) (im (X b l)) a n : ℝ) : EReal)) :
    (dats m 0 c).arrAt 14 (cfgs 0).N = R := by
  refine (dats m 0 c).arrAt_eq_of_covers 14 _ (by decide +kernel) fun t hf y => ?_
  blk_simp
  rw [after0_14]
  obtain ⟨a, n, l, rfl⟩ := exists_ln y
  refine Eq.trans (out_at (tables m c t) l (fun a n => (iblk0_at m c t ⟨t.val, t.isLt⟩ rfl a n l).trans (hx _ l a n)) (hg _ l) a n) ?_
  refine (hR ⟨t.val, t.isLt⟩ l a n).symm.trans (congrArg R ?_)
  blk_ext [idx t]

end Cert.Body

end
-- ==== Proof.PreFacts.lean ====
/- The shape relations the precondition's operations take. -/
module

public import proofs.«01_k».proof.Pre_distinct
public import Idealize.ShloMosaic.Lib.Decide

@[expose] public section

namespace Cert.Pre_distinct

open Idealize.ShloMosaic

/-- Every shape relation the precondition states holds. -/
instance facts : Facts where
  bcast_S_S2049x4096 := by decide
  transposes_S32x128x2049_S32x2049x128_0_2_1 := by decide
  transposes_S32x2049x128_S32x128x2049_0_2_1 := by decide
  sliceFits_S32x128x2049_S32x128x21 := by decide
  slices_S32x128x21_S32x128x20_0_0_0 := by decide
  slices_S32x128x21_S32x128x20_0_0_1 := by decide
  dot_S32x4096x128_S2049x4096_S32x128x2049_1_1_02_0_n_n_wf := by decide

end Cert.Pre_distinct
-- ==== Proof.Order.lean ====
/- The order a stable descending sort gives, and what `topK` returns of it. -/
module

public import proofs.«01_k».proof.Proof.Pick
public import proofs.«01_k».proof.Pre_distinct
public import proofs.«01_k».proof.Proof.PreFacts
public import Idealize.ShloMosaic.Lib.SortFacts
public import Idealize.ShloMosaic.Lib.Pointwise

@[expose] public section

set_option maxRecDepth 16384

noncomputable section

namespace Cert.Order

open Idealize.ShloMosaic

/-- The places of the entries of `a` in descending order, equal entries in the order they stand. -/
def places (a : Fin 2049 → EReal) : Fin 2049 → Fin 2049 :=
  sortedFrom fun k k' => FloatOps.cmpfTotal (F := Ideal) (φ := .f32) .gt (a k) (a k') == 1#1

/-- The same as numbers. -/
def place (a : Fin 2049 → EReal) (i : ℕ) : ℕ := if h : i < 2049 then places a ⟨i, h⟩ else 0

/-- The comparison the sort uses. -/
theorem gt_iff (x y : EReal) : (FloatOps.cmpfTotal (F := Ideal) (φ := .f32) .gt x y == 1#1) = decide (y < x) := by
  show (Ideal.cmp .ogt x y == 1#1) = _
  simp only [Ideal.cmp]
  by_cases h : y < x <;> simp [h]

/-- Later places hold no greater entries. -/
theorem places_desc (a : Fin 2049 → EReal) (i j : Fin 2049) (h : i < j) : a (places a j) ≤ a (places a i) := by
  have key := sortedFrom_noInversion (fun k k' => FloatOps.cmpfTotal (F := Ideal) (φ := .f32) .gt (a k) (a k') == 1#1)
    (fun k k' => FloatOps.cmpfTotal (F := Ideal) (φ := .f32) .gt (a k) (a k') == 1#1)
    (fun x y hxy => by
      rw [gt_iff] at hxy ⊢
      simpa using (of_decide_eq_true hxy).le)
    (fun _ _ hh => hh)
    (fun x y z h1 h2 => by
      rw [gt_iff] at h1 h2 ⊢
      simp only [decide_eq_false_iff_not, not_lt] at h1 h2 ⊢
      exact h1.trans h2) i j h
  rw [gt_iff] at key
  simpa [places] using key

/-- Every entry has a place. -/
theorem places_surj (a : Fin 2049 → EReal) : Function.Surjective (places a) := sortedFrom_surjective _

/-- If the first 21 magnitudes are strictly descending, the order is strict at the top. -/
theorem top_of_strict {M : ℕ → ℝ} (h0 : ∀ f, 0 ≤ M f) {a : Fin 2049 → EReal}
    (ha : ∀ f : Fin 2049, a f = ((Real.sqrt (M f) : ℝ) : EReal))
    (hs : ∀ i : Fin 20, a (places a ⟨i + 1, by omega⟩) < a (places a ⟨i, by omega⟩)) : Pick.Top M (place a) := by
  have hlt : ∀ f f' : Fin 2049, a f < a f' → M f < M f' := by
    intro f f' h
    rw [ha, ha, EReal.coe_lt_coe_iff, Real.sqrt_lt_sqrt_iff (h0 _)] at h
    exact h
  have hle : ∀ f f' : Fin 2049, a f ≤ a f' → M f ≤ M f' := by
    intro f f' h
    rw [ha, ha, EReal.coe_le_coe_iff, Real.sqrt_le_sqrt_iff (h0 _)] at h
    exact h
  have hp : ∀ (i : ℕ) (hi : i < 2049), place a i = places a ⟨i, hi⟩ := fun i hi => by rw [place, dif_pos hi]
  refine ⟨fun i j hij hj => ?_, fun f hf hne => ?_, fun i hi => ?_⟩
  · rw [hp i (by omega), hp j (by omega)]
    refine hlt _ _ (lt_of_le_of_lt ?_ (hs ⟨i, by omega⟩))
    rcases Nat.lt_or_ge (i + 1) j with h | h
    · exact places_desc a _ _ h
    · have e : j = i + 1 := by omega
      subst e
      exact le_rfl
  · obtain ⟨k, hk⟩ := places_surj a ⟨f, by omega⟩
    have hk20 : 20 < k.val := by
      by_contra hc
      refine hne k.val (by omega) ?_
      rw [hp k.val k.isLt]
      exact congrArg Fin.val hk
    rw [hp 20 (by omega)]
    have := hle _ _ (places_desc a ⟨20, by omega⟩ k hk20)
    rwa [hk] at this
  · rw [hp i (by omega)]
    exact Nat.le_of_lt_succ (places a _).isLt

/-- Two entries at the top of all of them cannot both stand in a strict order. -/
theorem not_two_top {a : Fin 2049 → EReal}
    (hs : ∀ i : Fin 20, a (places a ⟨i + 1, by omega⟩) < a (places a ⟨i, by omega⟩)) {f f' : Fin 2049} (hne : f ≠ f')
    (h : a f = ⊤) (h' : a f' = ⊤) : False := by
  have key : ∀ i j : Fin 2049, i < j → a (places a i) = ⊤ → a (places a j) = ⊤ → False := by
    intro i j hij hi hj
    have h1 : a (places a j) ≤ a (places a ⟨1, by omega⟩) := by
      rcases Nat.lt_or_ge 1 j.val with h | h
      · exact places_desc a _ _ h
      · have : j = ⟨1, by omega⟩ := Fin.ext (by have : i.val < j.val := hij; show j.val = 1; omega)
        rw [this]
    have h2 := lt_of_le_of_lt h1 (hs 0)
    rw [hj] at h2
    exact not_top_lt h2
  obtain ⟨i, rfl⟩ := places_surj a f
  obtain ⟨j, rfl⟩ := places_surj a f'
  rcases lt_trichotomy i j with hl | hl | hl
  · exact key i j hl h h'
  · exact hne (by rw [hl])
  · exact key j i hl h' h

section
variable (x : Vec Ideal Pre_distinct.S32x128x2049 .f32) (b : Fin 32) (l : Fin 128)

/-- Moving along the last axis changes the last coordinate alone. -/
theorem along_last (h : 2 < Pre_distinct.S32x128x2049.rank) (i k : Fin 2049) :
    Shape.Idx.along (s := Pre_distinct.S32x128x2049) (ix3 b l i) ⟨2, h⟩ k = ix3 b l k := by
  funext d
  unfold Shape.Idx.along
  match d with
  | ⟨0, _⟩ => rfl
  | ⟨1, _⟩ => rfl
  | ⟨2, _⟩ => rfl

/-- What `topK` reads, at any shape: along the axis `d`, the entries in their sorted places; `q k` is the index with `k` on
    that axis. -/
theorem topK_at {s t : Shape} {α : Type} (d : Nat) (gt : α → α → BitVec 1) (x : s.Idx → α) (h : s.Slices (fun _ => 0) t)
    (hd : d < s.rank) (j : t.Idx) (j' : s.Idx) (hj : ∀ a : Fin s.rank, (j' a).val = (j (a.cast h.1.symm)).val)
    (q : Fin (s.size ⟨d, hd⟩) → s.Idx) (hq : ∀ k, j'.along ⟨d, hd⟩ k = q k) :
    (Host.topK t d gt x h).1 j = x (q (sortedFrom (fun k k' => gt (x (q k)) (x (q k')) == 1#1) (j' ⟨d, hd⟩)))
      ∧ (Host.topK t d gt x h).2 j
        = BitVec.ofNat 32 (sortedFrom (fun k k' => gt (x (q k)) (x (q k')) == 1#1) (j' ⟨d, hd⟩)).val := by
  have e : (fun a => ⟨0 + (j (a.cast h.1.symm)).val,
      Nat.lt_of_lt_of_le (Nat.add_lt_add_left (j _).isLt _) (h.2 a)⟩ : s.Idx) = j' := by
    funext a
    exact Fin.ext (by rw [hj]; exact Nat.zero_add _)
  subst e
  obtain rfl : _ = q := funext hq
  unfold Host.topK Host.sort2
  simp only [extractStridedSlice, dif_pos hd]
  refine ⟨trivial, ?_⟩
  simp only [iotaInDim, Shape.Idx.along, Function.update_self]

/-- The entries of one signal. -/
def row (k : Fin 2049) : Pre_distinct.S32x128x2049.Idx := ix3 b l k

attribute [local irreducible] sortedFrom

/-- The coordinates agree. -/
theorem start_at {n : ℕ} (hn : n ≤ 2049) (i : Fin n) (h : (3 : ℕ) = 3) (a : Fin 3) :
    (ix3 b l (⟨i, by omega⟩ : Fin 2049) a).val = (ix3 b l i (a.cast h)).val := by
  match a with
  | ⟨0, _⟩ => rfl
  | ⟨1, _⟩ => rfl
  | ⟨2, _⟩ => rfl

/-- The values `topK` returns are those in the first places. -/
theorem topK_value {n : ℕ} (hn : n ≤ 2049)
    (h : Pre_distinct.S32x128x2049.Slices (fun _ => 0) ⟨3, ![32, 128, n]⟩) (i : Fin n) :
    (Host.topK ⟨3, ![32, 128, n]⟩ 2 (FloatOps.cmpfTotal (F := Ideal) (φ := .f32) .gt) x h).1 (ix3 b l i)
      = x (ix3 b l (places (fun k => x (ix3 b l k)) ⟨i, by omega⟩)) := by
  have hd : 2 < Pre_distinct.S32x128x2049.rank := by decide
  have key := topK_at (s := Pre_distinct.S32x128x2049) (t := ⟨3, ![32, 128, n]⟩) 2
    (FloatOps.cmpfTotal (F := Ideal) (φ := .f32) .gt) x h hd (ix3 b l i) (ix3 b l (⟨i, by omega⟩ : Fin 2049))
    (start_at b l hn i _) (row b l) (along_last b l hd _)
  exact key.1

/-- The indices `topK` returns are those places. -/
theorem topK_index {n : ℕ} (hn : n ≤ 2049)
    (h : Pre_distinct.S32x128x2049.Slices (fun _ => 0) ⟨3, ![32, 128, n]⟩) (i : Fin n) :
    (Host.topK ⟨3, ![32, 128, n]⟩ 2 (FloatOps.cmpfTotal (F := Ideal) (φ := .f32) .gt) x h).2 (ix3 b l i)
      = BitVec.ofNat 32 (place (fun k => x (ix3 b l k)) i) := by
  rw [place, dif_pos (by omega)]
  have hd : 2 < Pre_distinct.S32x128x2049.rank := by decide
  have key := topK_at (s := Pre_distinct.S32x128x2049) (t := ⟨3, ![32, 128, n]⟩) 2
    (FloatOps.cmpfTotal (F := Ideal) (φ := .f32) .gt) x h hd (ix3 b l i) (ix3 b l (⟨i, by omega⟩ : Fin 2049))
    (start_at b l hn i _) (row b l) (along_last b l hd _)
  exact key.2
end

end Cert.Order

end
-- ==== Proof.Same.lean ====
/- The two filters agree on real signals: the kernel's, with its threshold and bin 2048 apart, and the plain one, which sums
   the 20 greatest frequencies. -/
module

public import proofs.«01_k».proof.Proof.Body

@[expose] public section

noncomputable section

namespace Cert.Body

open Cert.Wave Finset

/-- One on the frequencies in the first 20 places of the order `σ`, zero on the others. -/
def ind (σ : ℕ → ℕ) (f : ℕ) : ℝ := by classical exact if ∃ i, i < 20 ∧ σ i = f then 1 else 0

/-- The plain inverse transform's weights. -/
def weight (f : ℕ) : ℝ := if f = 0 ∨ f = 2048 then 1 / 4096 else 2 / 4096

/-- The plain filter at time step `t`. -/
def plain (x : ℝ) (R I : ℕ → ℝ) (σ : ℕ → ℕ) (t : ℕ) : ℝ :=
  x - ((∑ f : Fin 2049, R f * ind σ f * weight f * Real.cos (ang (f * t) 4096))
    - ∑ f : Fin 2049, I f * ind σ f * weight f * Real.sin (ang (f * t) 4096))

/-- If `σ` orders the magnitudes strictly at the top, the kernel's filter is the plain one. -/
theorem filtered_eq (X : Fin 64 → Fin 64 → ℝ) {σ : ℕ → ℕ} (h : Pick.Top (mag X) σ) :
    ∃ g, Pick.Main (mag X) g ∧ ∀ m n : Fin 64,
      filtered X (mag X) (mag X (g 18)) (mag X (g 19)) (nyq X) (re X) (im X) m n
        = plain (X m n) (re X) (im X) σ (64 * m + n) := by
  classical
  obtain ⟨g, hg, hn, hf⟩ := h.main
  refine ⟨g, hg, fun m n => ?_⟩
  have hN : nyq X * nyq X = mag X 2048 := by rw [mag, im_2048, nyq_eq]; ring
  have hc : ∀ f : ℕ, f < 2048 → coef (mag X) (mag X (g 18)) (mag X (g 19)) (nyq X) f = ind σ f * weight f := by
    intro f hlt
    have e : wgt f = weight f := by
      unfold wgt weight
      by_cases h0 : f = 0
      · simp [h0]
      · have h1 : f ≠ 2048 := by omega
        simp [h0, h1]
    unfold coef ind
    rw [hN, e]
    by_cases hk : ∃ i, i < 20 ∧ σ i = f
    · rw [if_pos ((hf f hlt).mpr hk), if_pos hk, one_mul]
    · rw [if_neg (fun hh => hk ((hf f hlt).mp hh)), if_neg hk, zero_mul]
  have hx : xf (kept (mag X) (mag X (g 18)) (mag X (g 19)) (nyq X) (re X)) (kept (mag X) (mag X (g 18)) (mag X (g 19)) (nyq X) (im X)) m n
      = ∑ f : Fin 2048, (re X f * ind σ f * weight f * Real.cos (ang (f * (64 * m + n)) 4096)
        - im X f * ind σ f * weight f * Real.sin (ang (f * (64 * m + n)) 4096)) := by
    rw [xf_eq, ← sum_bins (fun f => re X f * ind σ f * weight f * Real.cos (ang (f * (64 * m + n)) 4096)
        - im X f * ind σ f * weight f * Real.sin (ang (f * (64 * m + n)) 4096))]
    refine sum_congr rfl fun k _ => sum_congr rfl fun j _ => ?_
    unfold kept
    rw [hc _ (bin_lt k j)]
    ring
  have h2 : (if mag X (g 19) < nyq X * nyq X then nyq X * (1 / 4096) else 0) = re X 2048 * ind σ 2048 * weight 2048 := by
    have e : weight 2048 = 1 / 4096 := by simp [weight]
    rw [hN, e, nyq_eq]
    unfold ind
    by_cases hk : ∃ i, i < 20 ∧ σ i = 2048
    · rw [if_pos (hn.mpr hk), if_pos hk, mul_one]
    · rw [if_neg (fun hh => hk (hn.mp hh)), if_neg hk]; ring
  unfold filtered plain
  rw [hx, h2, Fin.sum_univ_castSucc (n := 2048), Fin.sum_univ_castSucc (n := 2048), sum_sub_distrib]
  simp only [Fin.val_castSucc, Fin.val_last]
  rw [cos_half, sin_half, sgn_block]
  ring

end Cert.Body

end
-- ==== Proof.Reference.lean ====
/- The reference's arrays, one entry at a time. -/
module

public import proofs.«01_k».proof.Proof.Gen.ReferenceIdeal.Run
public import proofs.«01_k».proof.Proof.Order
public import proofs.«01_k».proof.Proof.Tables
public import proofs.«01_k».proof.Proof.Same
public import Idealize.ShloMosaic.Lib.Pointwise
public import Idealize.ShloMosaic.Lib.Tactic.CleanTypes
public import Idealize.ShloMosaic.Lib.Routing.OpsOrder

@[expose] public section

set_option maxRecDepth 16384

noncomputable section

namespace Cert.Ref

open Idealize.ShloMosaic Idealize.SL.Sem Cert.ReferenceIdeal Cert.ReferenceIdeal.Gen Cert.Wave Cert.Body

/-- The angles `2 π f t / 4096`. -/
def tab : FVec Ideal S2049x4096 .f32 :=
  mulf (sitofp .f32 (muli (iotaInDim S2049x4096 32 0) (iotaInDim S2049x4096 32 1))) (broadcastInDim S2049x4096 ![] bcast_S_S2049x4096 (mulf (Host.acos (constant S_ .f32 0xBF800000#32)) (constant S_ .f32 0x3A000000#32)))

variable (x : FVec Ideal S32x4096x128 .f32)

/-- The real part of the transform. -/
def reA : FVec Ideal S32x2049x128 .f32 :=
  transpose S32x2049x128 [0, 2, 1] (Host.dotGeneral dot_S32x4096x128_S2049x4096_S32x128x2049_1_1_02_0_n_n none x (Host.cos tab)) transposes_S32x128x2049_S32x2049x128_0_2_1

/-- Its imaginary part. -/
def imA : FVec Ideal S32x2049x128 .f32 :=
  Host.negf (transpose S32x2049x128 [0, 2, 1] (Host.dotGeneral dot_S32x4096x128_S2049x4096_S32x128x2049_1_1_02_0_n_n none x (Host.sin tab)) transposes_S32x128x2049_S32x2049x128_0_2_1)

/-- Its magnitudes. -/
def magA : FVec Ideal S32x128x2049 .f32 :=
  transpose S32x128x2049 [0, 2, 1] (Host.sqrt (addf (mulf (reA x) (reA x)) (mulf (imA x) (imA x)))) transposes_S32x2049x128_S32x128x2049_0_2_1

/-- The first 20 of an array's last axis in descending order. -/
def idxA (y : FVec Ideal S32x128x2049 .f32) : IVec S32x128x20 32 :=
  (Host.topK S32x128x20 2 (FloatOps.cmpfTotal .gt) y sliceFits_S32x128x2049_S32x128x20).2

/-- One on the frequencies listed, zero on the others. -/
def maskA (i : IVec S32x128x20 32) : FVec Ideal S32x2049x128 .f32 :=
  transpose S32x2049x128 [0, 2, 1] (uitofp .f32 (Host.reduce IntOp.ori (cmpi .eq (broadcastInDim S32x128x2049x20 ![0, 1, 2, 3] bcast_S32x128x1x20_S32x128x2049x20_0_1_2_3 (broadcastInDim S32x128x1x20 ![0, 1, 3] bcast_S32x128x20_S32x128x1x20_0_1_3 i)) (broadcastInDim S32x128x2049x20 ![0, 1, 2, 3] bcast_S1x1x2049x1_S32x128x2049x20_0_1_2_3 (iotaInDim S1x1x2049x1 32 2))) (constantI S_ 1 0#1) reducesTo_S32x128x2049x20_S32x128x2049_d3 h_S_)) transposes_S32x128x2049_S32x2049x128_0_2_1

/-- The weights of the inverse transform. -/
def wA : FVec Ideal S32x2049x128 .f32 :=
  broadcastInDim S32x2049x128 ![0, 1, 2] bcast_S1x2049x1_S32x2049x128_0_1_2 (id (select (ori (cmpi .eq (iotaInDim S1x2049x1 32 1) (broadcastInDim S1x2049x1 ![] bcast_S_S1x2049x1 (constantI S_ 32 0#32))) (cmpi .eq (iotaInDim S1x2049x1 32 1) (broadcastInDim S1x2049x1 ![] bcast_S_S1x2049x1 (constantI S_ 32 2048#32)))) (broadcastInDim S1x2049x1 ![] bcast_S_S1x2049x1 (constant S_ .f32 0x39800000#32)) (broadcastInDim S1x2049x1 ![] bcast_S_S1x2049x1 (constant S_ .f32 0x3A000000#32))))

/-- A sum over the frequencies, against a table. -/
def backA (y : FVec Ideal S32x2049x128 .f32) (t : FVec Ideal S2049x4096 .f32) : FVec Ideal S32x4096x128 .f32 :=
  transpose S32x4096x128 [0, 2, 1] (Host.dotGeneral dot_S32x2049x128_S2049x4096_S32x128x4096_1_0_02_1_n_n none y t) transposes_S32x128x4096_S32x4096x128_0_2_1

/-- The filtered signals. -/
def outA (i : IVec S32x128x20 32) : FVec Ideal S32x64x8192 .f32 :=
  shapeCast _ (subf x (subf (backA (mulf (mulf (reA x) (maskA i)) wA) (Host.cos tab)) (backA (mulf (mulf (imA x) (maskA i)) wA) (Host.sin tab)))) shapeCasts_S32x4096x128_S32x64x8192

/-- The reference's result is those arrays put together. -/
theorem res_eq (m : (ℓ : Loc nD τ sig) → Buf (Elt Ideal) ℓ) (c : Dev nD) :
    Value.res_main_v59 m c
      = outA (m ((c.tc : Thread nD τ).loc main_arg0)) (idxA (magA (m ((c.tc : Thread nD τ).loc main_arg0)))) := by
  unfold Value.res_main_v59
  rfl

/-- The word of 1/4096. -/
theorem fourth_bits : Ideal.ofBits FTy.f32 964689920#32 = ((1 / 4096 : ℝ) : EReal) := by
  simp [Ideal.ofBits, Ideal.ieee, -EReal.coe_mul]; norm_num

/-- An entry of the table of angles. -/
theorem tab_at (f : Fin 2049) (t : Fin 4096) : tab (ix2 f t) = ((ang (f * t) 4096 : ℝ) : EReal) := by
  have h : (f : ℕ) * t < 2 ^ 31 := (Nat.mul_lt_mul'' f.isLt t.isLt).trans (by norm_num)
  pointwise [tab]
  rw [Tab.count f t h, Tab.acos_neg, Tab.step4096_bits, ← EReal.coe_mul, ← EReal.coe_mul, ang]; norm_num

/-- The real part as a sum over time. -/
theorem re_at (b : Fin 32) (f : Fin 2049) (l : Fin 128) :
    reA x (ix3 b f l) = ∑ t : Fin 4096, x (ix3 b t l) * ((Real.cos (ang (f * t) 4096) : ℝ) : EReal) := by
  pointwise [reA]
  simp only [tab_at, Tab.cos_real]

/-- The imaginary part as a sum over time. -/
theorem im_at (b : Fin 32) (f : Fin 2049) (l : Fin 128) :
    imA x (ix3 b f l) = -∑ t : Fin 4096, x (ix3 b t l) * ((Real.sin (ang (f * t) 4096) : ℝ) : EReal) := by
  pointwise [imA]
  simp only [tab_at, Tab.sin_real]

/-- A magnitude. -/
theorem mag_at (b : Fin 32) (f : Fin 2049) (l : Fin 128) :
    magA x (ix3 b l f)
      = Ideal.sqrt (reA x (ix3 b f l) * reA x (ix3 b f l) + imA x (ix3 b f l) * imA x (ix3 b f l)) := by
  pointwise [magA]

/-- An entry of the mask, of the frequencies `σ` lists. -/
theorem mask_at (i : IVec S32x128x20 32) (b : Fin 32) (f : Fin 2049) (l : Fin 128) (σ : ℕ → ℕ) (hσ : ∀ k, k < 20 → σ k ≤ 2048)
    (hi : ∀ k : Fin 20, i (ix3 b l k) = BitVec.ofNat 32 (σ k)) : maskA i (ix3 b f l) = ((ind σ f : ℝ) : EReal) := by
  classical
  pointwise [maskA]
  have key : Finset.fold IntOp.ori (0#1) (fun k => IntOp.cmpi CmpIPredicate.eq (i (ix3 b l k)) (BitVec.ofNat 32 (f : ℕ)))
      Finset.univ = 1#1 ↔ ∃ k, k < 20 ∧ σ k = f := by
    rw [Routing.fold_ori]
    have e : ∀ k : Fin 20, IntOp.cmpi CmpIPredicate.eq (i (ix3 b l k)) (BitVec.ofNat 32 (f : ℕ)) = 1#1 ↔ σ k = f := by
      intro k
      have h1 := hσ k k.isLt
      have h2 := f.isLt
      rw [hi]
      simp only [IntOp.cmpi]
      constructor
      · intro h
        have h3 : BitVec.ofNat 32 (σ k) = BitVec.ofNat 32 (f : ℕ) := by
          by_contra hc
          rw [beq_eq_false_iff_ne.mpr hc] at h
          exact absurd h (by decide)
        have h4 := congrArg BitVec.toNat h3
        rw [BitVec.toNat_ofNat, BitVec.toNat_ofNat, Nat.mod_eq_of_lt (by omega), Nat.mod_eq_of_lt (by omega)] at h4
        exact h4
      · intro h; simp [h]
    constructor
    · rintro ⟨k, -, hk⟩; exact ⟨k, k.isLt, (e k).mp hk⟩
    · rintro ⟨k, hk, h⟩; exact ⟨⟨k, hk⟩, Finset.mem_univ _, (e ⟨k, hk⟩).mpr h⟩
  unfold ind
  by_cases h : ∃ k, k < 20 ∧ σ k = f
  · rw [if_pos h, key.mpr h]
    show (((1#1 : BitVec 1).toNat : ℝ) : EReal) = _
    simp
  · rw [if_neg h, (BitVec.eq_zero_or_eq_one _).resolve_right (fun hh => h (key.mp hh))]
    show (((0#1 : BitVec 1).toNat : ℝ) : EReal) = _
    simp

/-- The test for the two frequencies that count once. -/
theorem edge_word : ∀ f : Fin 2049, IntOp.ori (IntOp.cmpi .eq (BitVec.ofNat 32 (f : ℕ)) 0#32)
    (IntOp.cmpi .eq (BitVec.ofNat 32 (f : ℕ)) 2048#32) = BitVec.ofBool (decide ((f : ℕ) = 0 ∨ (f : ℕ) = 2048)) := by
  decide +kernel

/-- A weight. -/
theorem w_at (b : Fin 32) (f : Fin 2049) (l : Fin 128) : wA (ix3 b f l) = ((weight f : ℝ) : EReal) := by
  pointwise [wA, id]
  rw [edge_word, fourth_bits, Tab.step4096_bits, weight]
  by_cases h : (f : ℕ) = 0 ∨ (f : ℕ) = 2048
  · rw [if_pos h, decide_eq_true h]; rfl
  · rw [if_neg h, decide_eq_false h]; rfl

/-- A sum over the frequencies at time `t`. -/
theorem back_at (y : FVec Ideal S32x2049x128 .f32) (tb : FVec Ideal S2049x4096 .f32) (b : Fin 32) (t : Fin 4096) (l : Fin 128) :
    backA y tb (ix3 b t l) = ∑ f : Fin 2049, y (ix3 b f l) * tb (ix2 f t) := by
  pointwise [backA]

/-- A result, before it is known to be real. -/
theorem out_at (i : IVec S32x128x20 32) (b : Fin 32) (a n : Fin 64) (l : Fin 128) :
    outA x i (ix3 b a (ln l n)) = x (ix3 b ⟨64 * a + n, by omega⟩ l)
      - ((∑ f : Fin 2049, reA x (ix3 b f l) * maskA i (ix3 b f l) * wA (ix3 b f l)
            * ((Real.cos (ang (f * (64 * a + n : ℕ)) 4096) : ℝ) : EReal))
        - ∑ f : Fin 2049, imA x (ix3 b f l) * maskA i (ix3 b f l) * wA (ix3 b f l)
            * ((Real.sin (ang (f * (64 * a + n : ℕ)) 4096) : ℝ) : EReal)) := by
  pointwise [outA]
  have e1 : (⟨a * 64 + (n * 128 + l) / 128, by omega⟩ : Fin 4096) = ⟨64 * a + n, by omega⟩ := Fin.ext (by simp only; omega)
  have e2 : (⟨(n * 128 + l) % 128, Nat.mod_lt _ (by norm_num)⟩ : Fin 128) = l := Fin.ext (by simp only; omega)
  rw [e1, e2, back_at, back_at]
  have hc : ∀ f, Host.cos tab (ix2 f (⟨64 * a + n, by omega⟩ : Fin 4096)) = ((Real.cos (ang (f * (64 * a + n : ℕ)) 4096) : ℝ) : EReal) := by
    intro f
    show Ideal.cos (tab _) = _
    rw [tab_at, Tab.cos_real]
  have hs : ∀ f, Host.sin tab (ix2 f (⟨64 * a + n, by omega⟩ : Fin 4096)) = ((Real.sin (ang (f * (64 * a + n : ℕ)) 4096) : ℝ) : EReal) := by
    intro f
    show Ideal.sin (tab _) = _
    rw [tab_at, Tab.sin_real]
  simp only [hc, hs]
  rfl

section
variable {x} {b : Fin 32} {l : Fin 128} {X : Fin 64 → Fin 64 → ℝ}
  (hx : ∀ a n : Fin 64, x (ix3 b ⟨64 * a + n, by omega⟩ l) = (X a n : EReal))
include hx

/-- A sum over time of a real signal against real factors. -/
theorem time_sum (w : ℕ → ℝ) :
    ∑ t : Fin 4096, x (ix3 b t l) * (w t : EReal)
      = ((∑ a : Fin 64, ∑ n : Fin 64, X a n * w (64 * a + n) : ℝ) : EReal) := by
  have e : ∀ t : Fin 4096, x (ix3 b t l) * (w t : EReal)
      = (fun t : ℕ => ((X ⟨t / 64 % 64, Nat.mod_lt _ (by norm_num)⟩ ⟨t % 64, Nat.mod_lt _ (by norm_num)⟩ * w t : ℝ) : EReal)) t := by
    intro t
    have h := hx ⟨t / 64 % 64, Nat.mod_lt _ (by norm_num)⟩ ⟨t % 64, Nat.mod_lt _ (by norm_num)⟩
    rw [show (⟨64 * (t / 64 % 64) + t % 64, by omega⟩ : Fin 4096) = t from Fin.ext (by simp only; omega)] at h
    rw [h]
    exact (EReal.coe_mul _ _).symm
  rw [Finset.sum_congr rfl (fun t _ => e t)]
  refine (sum_blocks 64 64 4096 rfl (fun t : ℕ => ((X ⟨t / 64 % 64, Nat.mod_lt _ (by norm_num)⟩
    ⟨t % 64, Nat.mod_lt _ (by norm_num)⟩ * w t : ℝ) : EReal))).trans ?_
  rw [coe_sum]
  refine Finset.sum_congr rfl fun a _ => ?_
  rw [coe_sum]
  refine Finset.sum_congr rfl fun n _ => ?_
  have h1 : (⟨(64 * a + n) / 64 % 64, Nat.mod_lt _ (by norm_num)⟩ : Fin 64) = a := Fin.ext (by simp only; omega)
  have h2 : (⟨(64 * a + n) % 64, Nat.mod_lt _ (by norm_num)⟩ : Fin 64) = n := Fin.ext (by simp only; omega)
  simp only [h1, h2]

/-- On a real signal, the real part. -/
theorem re_real (f : Fin 2049) : reA x (ix3 b f l) = ((re X f : ℝ) : EReal) := by
  rw [re_at, time_sum hx (fun t => Real.cos (ang (f * t) 4096)), re]

/-- On a real signal, the imaginary part. -/
theorem im_real (f : Fin 2049) : imA x (ix3 b f l) = ((im X f : ℝ) : EReal) := by
  rw [im_at, time_sum hx (fun t => Real.sin (ang (f * t) 4096)), im, EReal.coe_neg]

/-- On a real signal, a magnitude. -/
theorem mag_real (f : Fin 2049) : magA x (ix3 b l f) = ((Real.sqrt (mag X f) : ℝ) : EReal) := by
  rw [mag_at, re_real hx, im_real hx, ← EReal.coe_mul, ← EReal.coe_mul, ← EReal.coe_add]
  show (if re X f * re X f + im X f * im X f < 0 then ⊥ else _) = _
  have h0 : ¬ re X f * re X f + im X f * im X f < 0 := not_lt.mpr (mag_nonneg X f)
  rw [if_neg h0]
  rfl

/-- A result on a real signal, of the frequencies `σ` lists: the plain filter. -/
theorem out_real (i : IVec S32x128x20 32) (σ : ℕ → ℕ) (hσ : ∀ k, k < 20 → σ k ≤ 2048)
    (hi : ∀ k : Fin 20, i (ix3 b l k) = BitVec.ofNat 32 (σ k)) (a n : Fin 64) :
    outA x i (ix3 b a (ln l n)) = ((plain (X a n) (re X) (im X) σ (64 * a + n) : ℝ) : EReal) := by
  rw [out_at, hx]
  simp only [re_real hx, im_real hx, mask_at i b _ l σ hσ hi, w_at, ← EReal.coe_mul]
  rw [← coe_sum, ← coe_sum, ← EReal.coe_sub, ← EReal.coe_sub, plain]
end

section
variable {x} {b : Fin 32} {l : Fin 128}

/-- A sum with one infinite term, all factors real and that term's nonzero, is infinite. -/
theorem sum_infinite {N : ℕ} (y : Fin N → EReal) (w : Fin N → ℝ) (t : Fin N) (hw : w t ≠ 0) (hy : y t = ⊤ ∨ y t = ⊥) :
    (∑ s, y s * (w s : EReal)) = ⊤ ∨ (∑ s, y s * (w s : EReal)) = ⊥ := by
  rw [← Finset.add_sum_erase _ _ (Finset.mem_univ t)]
  have h : y t * (w t : EReal) = ⊤ ∨ y t * (w t : EReal) = ⊥ := by
    rcases lt_or_gt_of_ne hw with h | h <;> rcases hy with e | e <;> rw [e]
    · exact Or.inr (EReal.top_mul_coe_of_neg h)
    · exact Or.inl (EReal.bot_mul_coe_of_neg h)
    · exact Or.inl (EReal.top_mul_coe_of_pos h)
    · exact Or.inr (EReal.bot_mul_coe_of_pos h)
  rcases h with h | h <;> rw [h]
  · rcases eq_or_ne (∑ s ∈ Finset.univ.erase t, y s * (w s : EReal)) ⊥ with e | e
    · rw [e]; exact Or.inr (EReal.add_bot _)
    · exact Or.inl (EReal.top_add_of_ne_bot e)
  · exact Or.inr (EReal.bot_add _)

/-- A square is not the bottom. -/
theorem sq_ne_bot (y : EReal) : y * y ≠ ⊥ := by
  induction y with
  | bot => simp
  | top => simp
  | coe r => rw [← EReal.coe_mul]; exact EReal.coe_ne_bot _

/-- If an entry of the signal is infinite, so is its magnitude at each frequency whose cosine there is not zero. -/
theorem mag_infinite (t : Fin 4096) (ht : x (ix3 b t l) = ⊤ ∨ x (ix3 b t l) = ⊥) (f : Fin 2049)
    (hf : Real.cos (ang (f * t) 4096) ≠ 0) : magA x (ix3 b l f) = ⊤ := by
  rw [mag_at, re_at]
  have h := sum_infinite (fun s => x (ix3 b s l)) (fun s => Real.cos (ang (f * s) 4096)) t hf ht
  have e : (∑ s : Fin 4096, x (ix3 b s l) * ((Real.cos (ang (f * s) 4096) : ℝ) : EReal))
      * (∑ s : Fin 4096, x (ix3 b s l) * ((Real.cos (ang (f * s) 4096) : ℝ) : EReal)) = ⊤ := by
    rcases h with h | h <;> rw [h] <;> simp
  rw [e, EReal.top_add_of_ne_bot (sq_ne_bot _)]
  rfl

/-- Where the first 21 magnitudes descend strictly, the signal is real. -/
theorem finite (hs : ∀ i : Fin 20, magA x (ix3 b l (Order.places (fun k => magA x (ix3 b l k)) ⟨i + 1, by omega⟩))
      < magA x (ix3 b l (Order.places (fun k => magA x (ix3 b l k)) ⟨i, by omega⟩))) (t : Fin 4096) :
    x (ix3 b t l) ≠ ⊤ ∧ x (ix3 b t l) ≠ ⊥ := by
  by_contra hc
  have ht : x (ix3 b t l) = ⊤ ∨ x (ix3 b t l) = ⊥ := by
    by_contra h
    exact hc ⟨fun e => h (Or.inl e), fun e => h (Or.inr e)⟩
  have h0 : magA x (ix3 b l (0 : Fin 2049)) = ⊤ := mag_infinite t ht 0 (by simp [ang])
  have h1 : magA x (ix3 b l (⟨2048, by norm_num⟩ : Fin 2049)) = ⊤ := mag_infinite t ht ⟨2048, by norm_num⟩ (by
    show Real.cos (ang (2048 * t) 4096) ≠ 0
    rw [cos_half, sgn]
    rcases Nat.mod_two_eq_zero_or_one t with e | e <;> rw [e] <;> norm_num)
  exact Order.not_two_top (a := fun k => magA x (ix3 b l k)) hs (f := 0) (f' := ⟨2048, by norm_num⟩)
    (by intro h; exact absurd (congrArg Fin.val h) (by norm_num)) h0 h1
end

/-- What the precondition says: the first 21 magnitudes of each signal descend strictly. -/
theorem strict (h1 h2 h3 h4 h5 h6)
    (h : Pre_distinct.fn (F := Ideal) x h1 h2 h3 h4 h5 h6 = fun _ => 1#1) (b : Fin 32) (l : Fin 128) (i : Fin 20) :
    magA x (ix3 b l (Order.places (fun k => magA x (ix3 b l k)) ⟨i + 1, by omega⟩))
      < magA x (ix3 b l (Order.places (fun k => magA x (ix3 b l k)) ⟨i, by omega⟩)) := by
  have e : Pre_distinct.fn (F := Ideal) x h1 h2 h3 h4 h5 h6
      = Pre_distinct.fn_part1 (Host.topK Pre_distinct.S32x128x21 2 (FloatOps.cmpfTotal .gt) (magA x)
          Pre_distinct.facts.sliceFits_S32x128x2049_S32x128x21).1 := by
    unfold Pre_distinct.fn
    rfl
  have hb := congrFun (e.symm.trans h) (ix3 b l i)
  generalize hv : (Host.topK Pre_distinct.S32x128x21 2 (FloatOps.cmpfTotal .gt) (magA x)
          Pre_distinct.facts.sliceFits_S32x128x2049_S32x128x21).1 = v at hb
  have ev : ∀ j : Fin 21, v (ix3 b l j) = magA x (ix3 b l (Order.places (fun k => magA x (ix3 b l k)) ⟨j, by omega⟩)) := by
    intro j
    rw [← hv]
    exact Order.topK_value (magA x) b l (by norm_num) _ j
  pointwise [Pre_distinct.fn_part1] at hb
  have hlt : v (ix3 b l ⟨1 + i, by omega⟩) < v (ix3 b l ⟨i, by omega⟩) := by
    by_contra hc
    rw [decide_eq_false hc] at hb
    exact absurd hb (by decide)
  rw [ev, ev] at hlt
  simpa only [Nat.add_comm 1] using hlt

end Cert.Ref

end
-- ==== Proof.Algebraic.lean ====
/- The value claim: the idealized kernel and the idealized reference end with the same array. -/
module

public import proofs.«01_k».proof.Defs
public import proofs.«01_k».proof.Proof.Array
public import proofs.«01_k».proof.Proof.Reference
public import Idealize.ShloMosaic.Lib.Claim

@[expose] public section

set_option maxRecDepth 16384

noncomputable section

open Idealize.ShloMosaic Idealize.SL.Sem

namespace Cert.Proof.Algebraic

/-- Where the precondition holds, the kernel's result array is the reference's. -/
theorem value (m : (ℓ : Loc KernelIdeal.nD KernelIdeal.τ KernelIdeal.sig) → Buf (Elt Ideal) ℓ) (c : Dev KernelIdeal.nD)
    (x : Vec Ideal ReferenceIdeal.S32x4096x128 .f32)
    (hxm : (m ((c.tc : Thread KernelIdeal.nD KernelIdeal.τ).loc KernelIdeal.main_arg0)) = x)
    (hs : ∀ (b : Fin 32) (l : Fin 128) (i : Fin 20),
      Ref.magA x (ix3 b l (Order.places (fun k => Ref.magA x (ix3 b l k)) ⟨i + 1, by omega⟩))
        < Ref.magA x (ix3 b l (Order.places (fun k => Ref.magA x (ix3 b l k)) ⟨i, by omega⟩))) :
    (KernelIdeal.Gen.dats m 0 c).arrAt 14 (KernelIdeal.cfgs 0).N = Ref.outA x (Ref.idxA (Ref.magA x)) := by
  have hX : ∃ X : Fin 32 → Fin 128 → Fin 64 → Fin 64 → ℝ, ∀ (b : Fin 32) (l : Fin 128) (a n : Fin 64),
      x (ix3 b ⟨64 * a + n, by omega⟩ l) = (X b l a n : EReal) := by
    refine ⟨fun b l a n => (x (ix3 b ⟨64 * a + n, by omega⟩ l)).toReal, fun b l a n => ?_⟩
    have h := Ref.finite (hs b l) ⟨64 * a + n, by omega⟩
    exact (EReal.coe_toReal h.1 h.2).symm
  obtain ⟨X, hX⟩ := hX
  have htop : ∀ b l, Pick.Top (Body.mag (X b l)) (Order.place fun k => Ref.magA x (ix3 b l k)) := fun b l =>
    Order.top_of_strict (Body.mag_nonneg _) (Ref.mag_real (hX b l)) (hs b l)
  choose g hg hf using fun b l => Body.filtered_eq (X b l) (htop b l)
  refine Body.final m c X g (fun b l a n => (congrFun hxm _).trans (hX b l a n)) hg _ fun b l a n => ?_
  rw [hf]
  exact Ref.out_real (hX b l) _ _ (fun k hk => (htop b l).le k (by omega))
    (fun k => Order.topK_index (Ref.magA x) b l (by norm_num) _ k) a n

/-- The kernel's run: the result array holds what its grid points wrote, the arguments end unchanged. -/
theorem kernel_run (m : (ℓ : Loc KernelIdeal.nD KernelIdeal.τ KernelIdeal.sig) → Buf (Elt Ideal) ℓ)
    (g : Dev KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0)
            = (Cert.KernelIdeal.Gen.dats m 0 c).arrAt 14 (Cert.KernelIdeal.cfgs 0).N
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  refine (θ_run Cert.KernelIdeal.defs _ _).mono ?_
    (Idealize.ShloMosaic.θ_run_and (Cert.KernelIdeal.Gen.run_main m g) (Cert.KernelIdeal.Gen.unchanged m g))
  intro r h c
  exact ⟨(h.1 c).1 14, h.2 c⟩

/-- From memories agreeing on the arguments, the first 21 magnitudes of each signal descending strictly, both programs
    run and end with equal results and unchanged arguments. -/
theorem algebraic : Cert.algebraic_KernelIdeal_ReferenceIdeal_pre_distinct := by
  intro m g m' g' hpre hagree
  refine ⟨fun c => (Cert.KernelIdeal.Gen.dats m 0 c).arrAt 14 (Cert.KernelIdeal.cfgs 0).N, ?_, ?_⟩
  · exact kernel_run m g
  · refine (θ_run Cert.ReferenceIdeal.defs _ _).mono (fun r h c => ⟨(h c).1.trans ?_, (h c).2⟩)
      (Cert.ReferenceIdeal.Value.run (F := Ideal) m' g')
    rw [Ref.res_eq]
    exact (value m c _ (hagree c).1.symm (Ref.strict _ _ _ _ _ _ _ (by rw [(hagree c).1]; exact hpre c))).symm

end Cert.Proof.Algebraic

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_distinct.facts,
    Frames.frame_p, Frames.frame_pi, fun m ρ _ => Frames.frame_pi m ρ trivial, Frames.frame_ri,
    fun m ρ _ => Frames.frame_ri m ρ trivial, trivial, Algebraic.algebraic⟩

end Cert.Proof

end
